-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainRefIdeal (m : (ℓ : Loc Cert.PlainRefIdeal.nD Cert.PlainRefIdeal.τ Cert.PlainRefIdeal.sig) → Buf (Elt Ideal) ℓ) : Prop :=
  True

def Pre_Rotary (m : (ℓ : Loc Cert.Rotary.nD Cert.Rotary.τ Cert.Rotary.sig) → Buf (Elt Bits) ℓ) : Prop :=
  True

def Pre_RotaryIdeal (m : (ℓ : Loc Cert.RotaryIdeal.nD Cert.RotaryIdeal.τ Cert.RotaryIdeal.sig) → Buf (Elt Ideal) ℓ) : Prop :=
  True

def Pre_RotaryRefIdeal (m : (ℓ : Loc Cert.RotaryRefIdeal.nD Cert.RotaryRefIdeal.τ Cert.RotaryRefIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputRefIdeal (m : (ℓ : Loc Cert.OutputRefIdeal.nD Cert.OutputRefIdeal.τ Cert.OutputRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1))
      ∧ r.2.sem = fun _ => 0)

def quiescent_PlainRefIdeal [hPlainRefIdeal : Cert.PlainRefIdeal.Facts] : Prop :=
  ∀ (m : (ℓ : Loc Cert.PlainRefIdeal.nD Cert.PlainRefIdeal.τ Cert.PlainRefIdeal.sig) → Buf (Elt Ideal) ℓ) (g : Dev Cert.PlainRefIdeal.nD → PrngReg), Pre_PlainRefIdeal m →
    θ_run (Cert.PlainRefIdeal.defs (F := Ideal)) (onTc (τ := Cert.PlainRefIdeal.τ) (Cert.PlainRefIdeal.main (F := Ideal))) ⟨m, fun _ => 0, g⟩ (fun r => (∀ c : Dev Cert.PlainRefIdeal.nD,
      r.2.mem ((c.tc : Thread Cert.PlainRefIdeal.nD Cert.PlainRefIdeal.τ).loc Cert.PlainRefIdeal.main_arg0) = m ((c.tc : Thread Cert.PlainRefIdeal.nD Cert.PlainRefIdeal.τ).loc Cert.PlainRefIdeal.main_arg0)
      ∧ r.2.mem ((c.tc : Thread Cert.PlainRefIdeal.nD Cert.PlainRefIdeal.τ).loc Cert.PlainRefIdeal.main_arg1) = m ((c.tc : Thread Cert.PlainRefIdeal.nD Cert.PlainRefIdeal.τ).loc Cert.PlainRefIdeal.main_arg1))
      ∧ r.2.sem = fun _ => 0)

def quiescent_Rotary [hRotary : Cert.Rotary.Facts] : Prop :=
  ∀ (m : (ℓ : Loc Cert.Rotary.nD Cert.Rotary.τ Cert.Rotary.sig) → Buf (Elt Bits) ℓ) (g : Dev Cert.Rotary.nD → PrngReg), Pre_Rotary m →
    θ_run (Cert.Rotary.defs (F := Bits)) (onTc (τ := Cert.Rotary.τ) (Cert.Rotary.main (F := Bits))) ⟨m, fun _ => 0, g⟩ (fun r => (∀ c : Dev Cert.Rotary.nD,
      r.2.mem ((c.tc : Thread Cert.Rotary.nD Cert.Rotary.τ).loc Cert.Rotary.main_arg0) = m ((c.tc : Thread Cert.Rotary.nD Cert.Rotary.τ).loc Cert.Rotary.main_arg0)
      ∧ r.2.mem ((c.tc : Thread Cert.Rotary.nD Cert.Rotary.τ).loc Cert.Rotary.main_arg1) = m ((c.tc : Thread Cert.Rotary.nD Cert.Rotary.τ).loc Cert.Rotary.main_arg1)
      ∧ r.2.mem ((c.tc : Thread Cert.Rotary.nD Cert.Rotary.τ).loc Cert.Rotary.main_arg2) = m ((c.tc : Thread Cert.Rotary.nD Cert.Rotary.τ).loc Cert.Rotary.main_arg2)
      ∧ r.2.mem ((c.tc : Thread Cert.Rotary.nD Cert.Rotary.τ).loc Cert.Rotary.main_arg3) = m ((c.tc : Thread Cert.Rotary.nD Cert.Rotary.τ).loc Cert.Rotary.main_arg3))
      ∧ r.2.sem = fun _ => 0)

def quiescent_RotaryIdeal [hRotaryIdeal : Cert.RotaryIdeal.Facts] : Prop :=
  ∀ (m : (ℓ : Loc Cert.RotaryIdeal.nD Cert.RotaryIdeal.τ Cert.RotaryIdeal.sig) → Buf (Elt Ideal) ℓ) (g : Dev Cert.RotaryIdeal.nD → PrngReg), Pre_RotaryIdeal m →
    θ_run (Cert.RotaryIdeal.defs (F := Ideal)) (onTc (τ := Cert.RotaryIdeal.τ) (Cert.RotaryIdeal.main (F := Ideal))) ⟨m, fun _ => 0, g⟩ (fun r => (∀ c : Dev Cert.RotaryIdeal.nD,
      r.2.mem ((c.tc : Thread Cert.RotaryIdeal.nD Cert.RotaryIdeal.τ).loc Cert.RotaryIdeal.main_arg0) = m ((c.tc : Thread Cert.RotaryIdeal.nD Cert.RotaryIdeal.τ).loc Cert.RotaryIdeal.main_arg0)
      ∧ r.2.mem ((c.tc : Thread Cert.RotaryIdeal.nD Cert.RotaryIdeal.τ).loc Cert.RotaryIdeal.main_arg1) = m ((c.tc : Thread Cert.RotaryIdeal.nD Cert.RotaryIdeal.τ).loc Cert.RotaryIdeal.main_arg1)
      ∧ r.2.mem ((c.tc : Thread Cert.RotaryIdeal.nD Cert.RotaryIdeal.τ).loc Cert.RotaryIdeal.main_arg2) = m ((c.tc : Thread Cert.RotaryIdeal.nD Cert.RotaryIdeal.τ).loc Cert.RotaryIdeal.main_arg2)
      ∧ r.2.mem ((c.tc : Thread Cert.RotaryIdeal.nD Cert.RotaryIdeal.τ).loc Cert.RotaryIdeal.main_arg3) = m ((c.tc : Thread Cert.RotaryIdeal.nD Cert.RotaryIdeal.τ).loc Cert.RotaryIdeal.main_arg3))
      ∧ r.2.sem = fun _ => 0)

def quiescent_RotaryRefIdeal [hRotaryRefIdeal : Cert.RotaryRefIdeal.Facts] : Prop :=
  ∀ (m : (ℓ : Loc Cert.RotaryRefIdeal.nD Cert.RotaryRefIdeal.τ Cert.RotaryRefIdeal.sig) → Buf (Elt Ideal) ℓ) (g : Dev Cert.RotaryRefIdeal.nD → PrngReg), Pre_RotaryRefIdeal m →
    θ_run (Cert.RotaryRefIdeal.defs (F := Ideal)) (onTc (τ := Cert.RotaryRefIdeal.τ) (Cert.RotaryRefIdeal.main (F := Ideal))) ⟨m, fun _ => 0, g⟩ (fun r => (∀ c : Dev Cert.RotaryRefIdeal.nD,
      r.2.mem ((c.tc : Thread Cert.RotaryRefIdeal.nD Cert.RotaryRefIdeal.τ).loc Cert.RotaryRefIdeal.main_arg0) = m ((c.tc : Thread Cert.RotaryRefIdeal.nD Cert.RotaryRefIdeal.τ).loc Cert.RotaryRefIdeal.main_arg0)
      ∧ r.2.mem ((c.tc : Thread Cert.RotaryRefIdeal.nD Cert.RotaryRefIdeal.τ).loc Cert.RotaryRefIdeal.main_arg1) = m ((c.tc : Thread Cert.RotaryRefIdeal.nD Cert.RotaryRefIdeal.τ).loc Cert.RotaryRefIdeal.main_arg1)
      ∧ r.2.mem ((c.tc : Thread Cert.RotaryRefIdeal.nD Cert.RotaryRefIdeal.τ).loc Cert.RotaryRefIdeal.main_arg2) = m ((c.tc : Thread Cert.RotaryRefIdeal.nD Cert.RotaryRefIdeal.τ).loc Cert.RotaryRefIdeal.main_arg2)
      ∧ r.2.mem ((c.tc : Thread Cert.RotaryRefIdeal.nD Cert.RotaryRefIdeal.τ).loc Cert.RotaryRefIdeal.main_arg3) = m ((c.tc : Thread Cert.RotaryRefIdeal.nD Cert.RotaryRefIdeal.τ).loc Cert.RotaryRefIdeal.main_arg3))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3)
      ∧ r.2.mem ((c.tc : Thread Cert.OutputRefIdeal.nD Cert.OutputRefIdeal.τ).loc Cert.OutputRefIdeal.main_arg4) = m ((c.tc : Thread Cert.OutputRefIdeal.nD Cert.OutputRefIdeal.τ).loc Cert.OutputRefIdeal.main_arg4)
      ∧ r.2.mem ((c.tc : Thread Cert.OutputRefIdeal.nD Cert.OutputRefIdeal.τ).loc Cert.OutputRefIdeal.main_arg5) = m ((c.tc : Thread Cert.OutputRefIdeal.nD Cert.OutputRefIdeal.τ).loc Cert.OutputRefIdeal.main_arg5))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v60) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Plain_PlainIdeal : Prop :=
  True

def algebraic_PlainIdeal_PlainRefIdeal [hPlainIdeal : Cert.PlainIdeal.Facts] [hPlainRefIdeal : Cert.PlainRefIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainRefIdeal.nD Cert.PlainRefIdeal.τ Cert.PlainRefIdeal.sig) → Buf (Elt Ideal) ℓ) (g' : Dev Cert.PlainRefIdeal.nD → PrngReg), Pre_PlainIdeal m →
    (∀ c : Dev Cert.PlainIdeal.nD,
      m' ((c.tc : Thread Cert.PlainRefIdeal.nD Cert.PlainRefIdeal.τ).loc Cert.PlainRefIdeal.main_arg0) = m ((c.tc : Thread Cert.PlainIdeal.nD Cert.PlainIdeal.τ).loc Cert.PlainIdeal.main_arg0)
      ∧ m' ((c.tc : Thread Cert.PlainRefIdeal.nD Cert.PlainRefIdeal.τ).loc Cert.PlainRefIdeal.main_arg1) = m ((c.tc : Thread Cert.PlainIdeal.nD Cert.PlainIdeal.τ).loc Cert.PlainIdeal.main_arg1)) →
    ∃ (v0 : (c : Dev Cert.PlainIdeal.nD) → Buf (Elt Ideal) ((c.tc : Thread Cert.PlainIdeal.nD Cert.PlainIdeal.τ).loc Cert.PlainIdeal.main_v0)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v0) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1))
      ∧ θ_run (Cert.PlainRefIdeal.defs (F := Ideal)) (onTc (τ := Cert.PlainRefIdeal.τ) (Cert.PlainRefIdeal.main (F := Ideal))) ⟨m', fun _ => 0, g'⟩ (fun r => ∀ c : Dev Cert.PlainRefIdeal.nD,
          r.2.mem ((c.tc : Thread Cert.PlainRefIdeal.nD Cert.PlainRefIdeal.τ).loc Cert.PlainRefIdeal.main_v3) = v0 c
          ∧ r.2.mem ((c.tc : Thread Cert.PlainRefIdeal.nD Cert.PlainRefIdeal.τ).loc Cert.PlainRefIdeal.main_arg0) = m' ((c.tc : Thread Cert.PlainRefIdeal.nD Cert.PlainRefIdeal.τ).loc Cert.PlainRefIdeal.main_arg0)
          ∧ r.2.mem ((c.tc : Thread Cert.PlainRefIdeal.nD Cert.PlainRefIdeal.τ).loc Cert.PlainRefIdeal.main_arg1) = m' ((c.tc : Thread Cert.PlainRefIdeal.nD Cert.PlainRefIdeal.τ).loc Cert.PlainRefIdeal.main_arg1))

def preserves_Rotary_RotaryIdeal : Prop :=
  True

def algebraic_RotaryIdeal_RotaryRefIdeal [hRotaryIdeal : Cert.RotaryIdeal.Facts] [hRotaryRefIdeal : Cert.RotaryRefIdeal.Facts] : Prop :=
  ∀ (m : (ℓ : Loc Cert.RotaryIdeal.nD Cert.RotaryIdeal.τ Cert.RotaryIdeal.sig) → Buf (Elt Ideal) ℓ) (g : Dev Cert.RotaryIdeal.nD → PrngReg)
    (m' : (ℓ : Loc Cert.RotaryRefIdeal.nD Cert.RotaryRefIdeal.τ Cert.RotaryRefIdeal.sig) → Buf (Elt Ideal) ℓ) (g' : Dev Cert.RotaryRefIdeal.nD → PrngReg), Pre_RotaryIdeal m →
    (∀ c : Dev Cert.RotaryIdeal.nD,
      m' ((c.tc : Thread Cert.RotaryRefIdeal.nD Cert.RotaryRefIdeal.τ).loc Cert.RotaryRefIdeal.main_arg0) = m ((c.tc : Thread Cert.RotaryIdeal.nD Cert.RotaryIdeal.τ).loc Cert.RotaryIdeal.main_arg0)
      ∧ m' ((c.tc : Thread Cert.RotaryRefIdeal.nD Cert.RotaryRefIdeal.τ).loc Cert.RotaryRefIdeal.main_arg1) = m ((c.tc : Thread Cert.RotaryIdeal.nD Cert.RotaryIdeal.τ).loc Cert.RotaryIdeal.main_arg1)
      ∧ m' ((c.tc : Thread Cert.RotaryRefIdeal.nD Cert.RotaryRefIdeal.τ).loc Cert.RotaryRefIdeal.main_arg2) = m ((c.tc : Thread Cert.RotaryIdeal.nD Cert.RotaryIdeal.τ).loc Cert.RotaryIdeal.main_arg2)
      ∧ m' ((c.tc : Thread Cert.RotaryRefIdeal.nD Cert.RotaryRefIdeal.τ).loc Cert.RotaryRefIdeal.main_arg3) = m ((c.tc : Thread Cert.RotaryIdeal.nD Cert.RotaryIdeal.τ).loc Cert.RotaryIdeal.main_arg3)) →
    ∃ (v0 : (c : Dev Cert.RotaryIdeal.nD) → Buf (Elt Ideal) ((c.tc : Thread Cert.RotaryIdeal.nD Cert.RotaryIdeal.τ).loc Cert.RotaryIdeal.main_v45_0)) (v1 : (c : Dev Cert.RotaryIdeal.nD) → Buf (Elt Ideal) ((c.tc : Thread Cert.RotaryIdeal.nD Cert.RotaryIdeal.τ).loc Cert.RotaryIdeal.main_v45_1)) (v2 : (c : Dev Cert.RotaryIdeal.nD) → Buf (Elt Ideal) ((c.tc : Thread Cert.RotaryIdeal.nD Cert.RotaryIdeal.τ).loc Cert.RotaryIdeal.main_v45_2)),
      θ_run (Cert.RotaryIdeal.defs (F := Ideal)) (onTc (τ := Cert.RotaryIdeal.τ) (Cert.RotaryIdeal.main (F := Ideal))) ⟨m, fun _ => 0, g⟩ (fun r => ∀ c : Dev Cert.RotaryIdeal.nD,
          r.2.mem ((c.tc : Thread Cert.RotaryIdeal.nD Cert.RotaryIdeal.τ).loc Cert.RotaryIdeal.main_v45_0) = v0 c
          ∧ r.2.mem ((c.tc : Thread Cert.RotaryIdeal.nD Cert.RotaryIdeal.τ).loc Cert.RotaryIdeal.main_v45_1) = v1 c
          ∧ r.2.mem ((c.tc : Thread Cert.RotaryIdeal.nD Cert.RotaryIdeal.τ).loc Cert.RotaryIdeal.main_v45_2) = v2 c
          ∧ r.2.mem ((c.tc : Thread Cert.RotaryIdeal.nD Cert.RotaryIdeal.τ).loc Cert.RotaryIdeal.main_arg0) = m ((c.tc : Thread Cert.RotaryIdeal.nD Cert.RotaryIdeal.τ).loc Cert.RotaryIdeal.main_arg0)
          ∧ r.2.mem ((c.tc : Thread Cert.RotaryIdeal.nD Cert.RotaryIdeal.τ).loc Cert.RotaryIdeal.main_arg1) = m ((c.tc : Thread Cert.RotaryIdeal.nD Cert.RotaryIdeal.τ).loc Cert.RotaryIdeal.main_arg1)
          ∧ r.2.mem ((c.tc : Thread Cert.RotaryIdeal.nD Cert.RotaryIdeal.τ).loc Cert.RotaryIdeal.main_arg2) = m ((c.tc : Thread Cert.RotaryIdeal.nD Cert.RotaryIdeal.τ).loc Cert.RotaryIdeal.main_arg2)
          ∧ r.2.mem ((c.tc : Thread Cert.RotaryIdeal.nD Cert.RotaryIdeal.τ).loc Cert.RotaryIdeal.main_arg3) = m ((c.tc : Thread Cert.RotaryIdeal.nD Cert.RotaryIdeal.τ).loc Cert.RotaryIdeal.main_arg3))
      ∧ θ_run (Cert.RotaryRefIdeal.defs (F := Ideal)) (onTc (τ := Cert.RotaryRefIdeal.τ) (Cert.RotaryRefIdeal.main (F := Ideal))) ⟨m', fun _ => 0, g'⟩ (fun r => ∀ c : Dev Cert.RotaryRefIdeal.nD,
          r.2.mem ((c.tc : Thread Cert.RotaryRefIdeal.nD Cert.RotaryRefIdeal.τ).loc Cert.RotaryRefIdeal.main_v84) = v0 c
          ∧ r.2.mem ((c.tc : Thread Cert.RotaryRefIdeal.nD Cert.RotaryRefIdeal.τ).loc Cert.RotaryRefIdeal.main_v85) = v1 c
          ∧ r.2.mem ((c.tc : Thread Cert.RotaryRefIdeal.nD Cert.RotaryRefIdeal.τ).loc Cert.RotaryRefIdeal.main_v86) = v2 c
          ∧ r.2.mem ((c.tc : Thread Cert.RotaryRefIdeal.nD Cert.RotaryRefIdeal.τ).loc Cert.RotaryRefIdeal.main_arg0) = m' ((c.tc : Thread Cert.RotaryRefIdeal.nD Cert.RotaryRefIdeal.τ).loc Cert.RotaryRefIdeal.main_arg0)
          ∧ r.2.mem ((c.tc : Thread Cert.RotaryRefIdeal.nD Cert.RotaryRefIdeal.τ).loc Cert.RotaryRefIdeal.main_arg1) = m' ((c.tc : Thread Cert.RotaryRefIdeal.nD Cert.RotaryRefIdeal.τ).loc Cert.RotaryRefIdeal.main_arg1)
          ∧ r.2.mem ((c.tc : Thread Cert.RotaryRefIdeal.nD Cert.RotaryRefIdeal.τ).loc Cert.RotaryRefIdeal.main_arg2) = m' ((c.tc : Thread Cert.RotaryRefIdeal.nD Cert.RotaryRefIdeal.τ).loc Cert.RotaryRefIdeal.main_arg2)
          ∧ r.2.mem ((c.tc : Thread Cert.RotaryRefIdeal.nD Cert.RotaryRefIdeal.τ).loc Cert.RotaryRefIdeal.main_arg3) = m' ((c.tc : Thread Cert.RotaryRefIdeal.nD Cert.RotaryRefIdeal.τ).loc Cert.RotaryRefIdeal.main_arg3))

def preserves_Output_OutputIdeal : Prop :=
  True

def algebraic_OutputIdeal_OutputRefIdeal [hOutputIdeal : Cert.OutputIdeal.Facts] [hOutputRefIdeal : Cert.OutputRefIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputIdeal m →
    (∀ c : Dev Cert.OutputIdeal.nD,
      m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)
      ∧ m' ((c.tc : Thread Cert.OutputRefIdeal.nD Cert.OutputRefIdeal.τ).loc Cert.OutputRefIdeal.main_arg3) = m ((c.tc : Thread Cert.OutputIdeal.nD Cert.OutputIdeal.τ).loc Cert.OutputIdeal.main_arg3)
      ∧ m' ((c.tc : Thread Cert.OutputRefIdeal.nD Cert.OutputRefIdeal.τ).loc Cert.OutputRefIdeal.main_arg4) = m ((c.tc : Thread Cert.OutputIdeal.nD Cert.OutputIdeal.τ).loc Cert.OutputIdeal.main_arg4)
      ∧ m' ((c.tc : Thread Cert.OutputRefIdeal.nD Cert.OutputRefIdeal.τ).loc Cert.OutputRefIdeal.main_arg5) = m ((c.tc : Thread Cert.OutputIdeal.nD Cert.OutputIdeal.τ).loc Cert.OutputIdeal.main_arg5)) →
    ∃ (v0 : (c : Dev Cert.OutputIdeal.nD) → Buf (Elt Ideal) ((c.tc : Thread Cert.OutputIdeal.nD Cert.OutputIdeal.τ).loc Cert.OutputIdeal.main_v1_0)) (v1 : (c : Dev Cert.OutputIdeal.nD) → Buf (Elt Ideal) ((c.tc : Thread Cert.OutputIdeal.nD Cert.OutputIdeal.τ).loc Cert.OutputIdeal.main_v1_1)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v1_0) = v0 c
          ∧ r.2.mem ((c.tc : Thread Cert.OutputIdeal.nD Cert.OutputIdeal.τ).loc Cert.OutputIdeal.main_v1_1) = v1 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v3) = v0 c
          ∧ r.2.mem ((c.tc : Thread Cert.OutputRefIdeal.nD Cert.OutputRefIdeal.τ).loc Cert.OutputRefIdeal.main_v17) = v1 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2)
          ∧ r.2.mem ((c.tc : Thread Cert.OutputRefIdeal.nD Cert.OutputRefIdeal.τ).loc Cert.OutputRefIdeal.main_arg3) = m' ((c.tc : Thread Cert.OutputRefIdeal.nD Cert.OutputRefIdeal.τ).loc Cert.OutputRefIdeal.main_arg3)
          ∧ r.2.mem ((c.tc : Thread Cert.OutputRefIdeal.nD Cert.OutputRefIdeal.τ).loc Cert.OutputRefIdeal.main_arg4) = m' ((c.tc : Thread Cert.OutputRefIdeal.nD Cert.OutputRefIdeal.τ).loc Cert.OutputRefIdeal.main_arg4)
          ∧ r.2.mem ((c.tc : Thread Cert.OutputRefIdeal.nD Cert.OutputRefIdeal.τ).loc Cert.OutputRefIdeal.main_arg5) = m' ((c.tc : Thread Cert.OutputRefIdeal.nD Cert.OutputRefIdeal.τ).loc Cert.OutputRefIdeal.main_arg5))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hPlain : Cert.Plain.Facts) (hPlainIdeal : Cert.PlainIdeal.Facts) (hPlainRefIdeal : Cert.PlainRefIdeal.Facts) (hRotary : Cert.Rotary.Facts) (hRotaryIdeal : Cert.RotaryIdeal.Facts) (hRotaryRefIdeal : Cert.RotaryRefIdeal.Facts) (hOutput : Cert.Output.Facts) (hOutputIdeal : Cert.OutputIdeal.Facts) (hOutputRefIdeal : Cert.OutputRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Plain (hPlain := hPlain)
    ∧ quiescent_PlainIdeal (hPlainIdeal := hPlainIdeal)
    ∧ quiescent_PlainRefIdeal (hPlainRefIdeal := hPlainRefIdeal)
    ∧ quiescent_Rotary (hRotary := hRotary)
    ∧ quiescent_RotaryIdeal (hRotaryIdeal := hRotaryIdeal)
    ∧ quiescent_RotaryRefIdeal (hRotaryRefIdeal := hRotaryRefIdeal)
    ∧ quiescent_Output (hOutput := hOutput)
    ∧ quiescent_OutputIdeal (hOutputIdeal := hOutputIdeal)
    ∧ quiescent_OutputRefIdeal (hOutputRefIdeal := hOutputRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
    ∧ preserves_Plain_PlainIdeal
    ∧ algebraic_PlainIdeal_PlainRefIdeal (hPlainIdeal := hPlainIdeal) (hPlainRefIdeal := hPlainRefIdeal)
    ∧ preserves_Rotary_RotaryIdeal
    ∧ algebraic_RotaryIdeal_RotaryRefIdeal (hRotaryIdeal := hRotaryIdeal) (hRotaryRefIdeal := hRotaryRefIdeal)
    ∧ preserves_Output_OutputIdeal
    ∧ algebraic_OutputIdeal_OutputRefIdeal (hOutputIdeal := hOutputIdeal) (hOutputRefIdeal := hOutputRefIdeal)
-- ==== Pre_finite.lean ====
abbrev S16x2048x4352 : Shape := ⟨3, ![16, 2048, 4352]⟩
abbrev S16x4x2048 : Shape := ⟨3, ![16, 4, 2048]⟩
abbrev S16x2048x1024 : Shape := ⟨3, ![16, 2048, 1024]⟩
abbrev S_ : Shape := ⟨0, ![]⟩

class Facts : Prop where
  slices_S16x2048x4352_S16x2048x1024_0_0_0 : S16x2048x4352.Slices ![0, 0, 0] S16x2048x1024
  bitsLt_bf16_f32 : FTy.bits .bf16 < FTy.bits .f32
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x4x2048 : S_.BroadcastsInDim S16x4x2048 (![] : Fin 0 → Fin S16x4x2048.rank)
  reducesTo_S16x4x2048_S_d0_1_2 : S16x4x2048.ReducesTo [0, 1, 2] S_

variable [Facts]

def fn {F : FTy → Type} [FloatOps F] (main_arg0 : FVec F S16x2048x4352 .bf16) (main_arg1 : FVec F S16x4x2048 .f32) : IVec S_ 1 :=
  let main_v0 : FVec F S16x2048x1024 .bf16 := (extractStridedSlice S16x2048x1024 ![0, 0, 0] · slices_S16x2048x4352_S16x2048x1024_0_0_0) main_arg0
  let main_v1 : FVec F S16x2048x1024 .f32 := (extf .f32 · bitsLt_bf16_f32) main_v0
  let main_v2 : FVec F S16x2048x1024 .f32 := Host.absf main_v1
  let main_cst : FVec F S_ .f32 := constant S_ .f32 0x7F800000#32
  let main_v3 : FVec F S16x2048x1024 .f32 := broadcastInDim S16x2048x1024 ![] bcast_S_S16x2048x1024 main_cst
  let main_v4 : IVec S16x2048x1024 1 := cmpf .olt main_v2 main_v3
  let main_c : IVec S_ 1 := constantI S_ 1 1#1
  let main_v5 : IVec S_ 1 := (fun x v => Host.reduce IntOp.andi x v reducesTo_S16x2048x1024_S_d0_1_2 h_S_) main_v4 main_c
  let main_v6 : FVec F S16x4x2048 .f32 := Host.absf main_arg1
  let main_cst_0 : FVec F S_ .f32 := constant S_ .f32 0x7F800000#32
  let main_v7 : FVec F S16x4x2048 .f32 := broadcastInDim S16x4x2048 ![] bcast_S_S16x4x2048 main_cst_0
  let main_v8 : IVec S16x4x2048 1 := cmpf .olt main_v6 main_v7
  let main_c_1 : IVec S_ 1 := constantI S_ 1 1#1
  let main_v9 : IVec S_ 1 := (fun x v => Host.reduce IntOp.andi x v reducesTo_S16x4x2048_S_d0_1_2 h_S_) main_v8 main_c_1
  let main_v10 : IVec S_ 1 := andi main_v5 main_v9
  main_v10
-- ==== Kernel.lean ====
abbrev S16x2048x4352 : Shape := ⟨3, ![16, 2048, 4352]⟩
abbrev S16x4x2048 : Shape := ⟨3, ![16, 4, 2048]⟩
abbrev S16x2048x512 : Shape := ⟨3, ![16, 2048, 512]⟩
abbrev S1x512x128 : Shape := ⟨3, ![1, 512, 128]⟩
abbrev S1x2048x128 : Shape := ⟨3, ![1, 2048, 128]⟩
abbrev S1x4x2048 : Shape := ⟨3, ![1, 4, 2048]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 3
  | .vmem => 13
  | .smem => 0
  | _ => 0

abbrev bufTy : (tb : Table) → Fin (tcTables nBuf tb) → BufTy
  | .hbm, ⟨0, _⟩ => ⟨S16x2048x4352, .bf16⟩
  | .hbm, ⟨1, _⟩ => ⟨S16x4x2048, .f32⟩
  | .hbm, ⟨2, _⟩ => ⟨S16x2048x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x4x2048, .f32⟩
  | .local _ .vmem, ⟨7, _⟩ => ⟨S1x4x2048, .f32⟩
  | .local _ .vmem, ⟨8, _⟩ => ⟨S1x512x128, .bf16⟩
  | .local _ .vmem, ⟨9, _⟩ => ⟨S1x512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S16x2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_2 : BitVec 32 := 0#32
  let v4 : BitVec 1 := Scalar.cmpi .ne v3 c0_i32_2
  v4

def k0_off1 (i : grid0.Coords) : Fin 3 → Nat :=
  let c0_19 : Index := 0#32
  let arg1 : BitVec 32 := BitVec.ofNat 32 (i 1).val
  let v31 : Index := Scalar.indexCast arg1
  let c0_20 : Index := 0#32
  ![0, v31.toNat, 0]
def k0_cond2 (i : grid0.Coords) : BitVec 1 :=
  let arg2 : BitVec 32 := BitVec.ofNat 32 (i 2).val
  let c1_i32 : BitVec 32 := 1#32
  let v5 : BitVec 1 := Scalar.cmpi .eq arg2 c1_i32
  let v6 : BitVec 32 := Scalar.extui v5
  let c0_i32_3 : BitVec 32 := 0#32
  let v7 : BitVec 1 := Scalar.cmpi .ne v6 c0_i32_3
  v7

def k0_off2 (i : grid0.Coords) : Fin 3 → Nat :=
  let c0_19 : Index := 0#32
  let arg1 : BitVec 32 := BitVec.ofNat 32 (i 1).val
  let v31 : Index := Scalar.indexCast arg1
  let c0_20 : Index := 0#32
  ![0, v31.toNat, 0]
def k0_off3 (i : grid0.Coords) : Fin 3 → Nat :=
  let c0_26 : Index := 0#32
  let arg1 : BitVec 32 := BitVec.ofNat 32 (i 1).val
  let v43 : Index := Scalar.indexCast arg1
  let c512_27 : Index := 512#32
  ![0, v43.toNat, 512]
def k0_cond3 (i : grid0.Coords) : BitVec 1 :=
  let arg2 : BitVec 32 := BitVec.ofNat 32 (i 2).val
  let c2_i32 : BitVec 32 := 2#32
  let v8 : BitVec 1 := Scalar.cmpi .eq arg2 c2_i32
  let v9 : BitVec 32 := Scalar.extui v8
  let c0_i32_4 : BitVec 32 := 0#32
  let v10 : BitVec 1 := Scalar.cmpi .ne v9 c0_i32_4
  v10

def k0_off4 (i : grid0.Coords) : Fin 3 → Nat :=
  let c0_19 : Index := 0#32
  let arg1 : BitVec 32 := BitVec.ofNat 32 (i 1).val
  let v31 : Index := Scalar.indexCast arg1
  let c0_20 : Index := 0#32
  ![0, v31.toNat, 0]
def k0_off5 (i : grid0.Coords) : Fin 3 → Nat :=
  let c0_26 : Index := 0#32
  let arg1 : BitVec 32 := BitVec.ofNat 32 (i 1).val
  let v43 : Index := Scalar.indexCast arg1
  let c512_27 : Index := 512#32
  ![0, v43.toNat, 512]
def k0_off6 (i : grid0.Coords) : Fin 3 → Nat :=
  let c0_51 : Index := 0#32
  let arg1 : BitVec 32 := BitVec.ofNat 32 (i 1).val
  let v87 : Index := Scalar.indexCast arg1
  let c1024_52 : Index := 1024#32
  ![0, v87.toNat, 1024]
def k0_cond4 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def k0_off7 (i : grid0.Coords) : Fin 3 → Nat :=
  let c0_19 : Index := 0#32
  let arg1 : BitVec 32 := BitVec.ofNat 32 (i 1).val
  let v31 : Index := Scalar.indexCast arg1
  let c0_20 : Index := 0#32
  ![0, v31.toNat, 0]
def k0_off8 (i : grid0.Coords) : Fin 3 → Nat :=
  let c0_26 : Index := 0#32
  let arg1 : BitVec 32 := BitVec.ofNat 32 (i 1).val
  let v43 : Index := Scalar.indexCast arg1
  let c512_27 : Index := 512#32
  ![0, v43.toNat, 512]
def k0_off9 (i : grid0.Coords) : Fin 3 → Nat :=
  let c0_51 : Index := 0#32
  let arg1 : BitVec 32 := BitVec.ofNat 32 (i 1).val
  let v87 : Index := Scalar.indexCast arg1
  let c1024_52 : Index := 1024#32
  ![0, v87.toNat, 1024]
def k0_off10 (i : grid0.Coords) : Fin 3 → Nat :=
  let c0_76 : Index := 0#32
  let arg1 : BitVec 32 := BitVec.ofNat 32 (i 1).val
  let v131 : Index := Scalar.indexCast arg1
  let c1536_77 : Index := 1536#32
  ![0, v131.toNat, 1536]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S16x2048x4352 : Shape := ⟨3, ![16, 2048, 4352]⟩
abbrev S16x4x2048 : Shape := ⟨3, ![16, 4, 2048]⟩
abbrev S16x2048x512 : Shape := ⟨3, ![16, 2048, 512]⟩
abbrev S16x2048x4x128 : Shape := ⟨4, ![16, 2048, 4, 128]⟩
abbrev S16x4x2048x128 : Shape := ⟨4, ![16, 4, 2048, 128]⟩
abbrev S16x4x2048x2048 : Shape := ⟨4, ![16, 4, 2048, 2048]⟩
abbrev S_ : Shape := ⟨0, ![]⟩
abbrev S16x4x2048x1 : Shape := ⟨4, ![16, 4, 2048, 1]⟩
abbrev S16x4x1x2048 : Shape := ⟨4, ![16, 4, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16x2048x4352, .bf16⟩
  | .hbm, ⟨1, _⟩ => ⟨S16x4x2048, .f32⟩
  | .hbm, ⟨2, _⟩ => ⟨S16x2048x4352, .f32⟩
  | .hbm, ⟨3, _⟩ => ⟨S16x2048x512, .f32⟩
  | .hbm, ⟨4, _⟩ => ⟨S16x2048x4x128, .f32⟩
  | .hbm, ⟨5, _⟩ => ⟨S16x4x2048x128, .f32⟩
  | .hbm, ⟨6, _⟩ => ⟨S16x2048x512, .f32⟩
  | .hbm, ⟨7, _⟩ => ⟨S16x2048x4x128, .f32⟩
  | .hbm, ⟨8, _⟩ => ⟨S16x4x2048x128, .f32⟩
  | .hbm, ⟨9, _⟩ => ⟨S16x2048x512, .f32⟩
  | .hbm, ⟨10, _⟩ => ⟨S16x2048x4x128, .f32⟩
  | .hbm, ⟨11, _⟩ => ⟨S16x4x2048x128, .f32⟩
  | .hbm, ⟨12, _⟩ => ⟨S16x4x2048x2048, .f32⟩
  | .hbm, ⟨13, _⟩ => ⟨S_, .f32⟩
  | .hbm, ⟨14, _⟩ => ⟨S16x4x2048x2048, .f32⟩
  | .hbm, ⟨15, _⟩ => ⟨S16x4x2048x2048, .f32⟩
  | .hbm, ⟨16, _⟩ => ⟨S16x4x2048x1, .f32⟩
  | .hbm, ⟨17, _⟩ => ⟨S16x4x2048x2048, .f32⟩
  | .hbm, ⟨18, _⟩ => ⟨S16x4x2048x2048, .f32⟩
  | .hbm, ⟨19, _⟩ => ⟨S16x4x1x2048, .f32⟩
  | .hbm, ⟨20, _⟩ => ⟨S16x4x2048x2048, .f32⟩
  | .hbm, ⟨21, _⟩ => ⟨S16x4x2048x2048, .f32⟩
  | .hbm, ⟨22, _⟩ => ⟨S2048, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S16x4x2048x2048, .i1⟩
  | .hbm, ⟨32, _⟩ => ⟨S16x4x2048x2048, .f32⟩
  | .hbm, ⟨33, _⟩ => ⟨S16x4x2048x2048, .f32⟩
  | .hbm, ⟨34, _⟩ => ⟨S_, .f32⟩
  | .hbm, ⟨35, _⟩ => ⟨S16x4x2048, .f32⟩
  | .hbm, ⟨36, _⟩ => ⟨S16x4x2048x1, .f32⟩
  | .hbm, ⟨37, _⟩ => ⟨S16x4x2048x1, .f32⟩
  | .hbm, ⟨38, _⟩ => ⟨S_, .f32⟩
  | .hbm, ⟨39, _⟩ => ⟨S16x4x2048x1, .f32⟩
  | .hbm, ⟨40, _⟩ => ⟨S16x4x2048x1, .i1⟩
  | .hbm, ⟨41, _⟩ => ⟨S_, .f32⟩
  | .hbm, ⟨42, _⟩ => ⟨S_, .f32⟩
  | .hbm, ⟨43, _⟩ => ⟨S16x4x2048x1, .f32⟩
  | .hbm, ⟨44, _⟩ => ⟨S16x4x2048x1, .f32⟩
  | .hbm, ⟨45, _⟩ => ⟨S16x4x2048x2048, .f32⟩
  | .hbm, ⟨46, _⟩ => ⟨S16x4x2048x2048, .f32⟩
  | .hbm, ⟨47, _⟩ => ⟨S16x4x2048x2048, .f32⟩
  | .hbm, ⟨48, _⟩ => ⟨S_, .f32⟩
  | .hbm, ⟨49, _⟩ => ⟨S_, .f32⟩
  | .hbm, ⟨50, _⟩ => ⟨S16x4x2048x2048, .i1⟩
  | .hbm, ⟨51, _⟩ => ⟨S16x4x2048x2048, .f32⟩
  | .hbm, ⟨52, _⟩ => ⟨S16x4x2048x2048, .f32⟩
  | .hbm, ⟨53, _⟩ => ⟨S_, .f32⟩
  | .hbm, ⟨54, _⟩ => ⟨S16x4x2048, .f32⟩
  | .hbm, ⟨55, _⟩ => ⟨S16x4x2048x1, .f32⟩
  | .hbm, ⟨56, _⟩ => ⟨S_, .f32⟩
  | .hbm, ⟨57, _⟩ => ⟨S16x4x2048x1, .f32⟩
  | .hbm, ⟨58, _⟩ => ⟨S16x4x2048x1, .f32⟩
  | .hbm, ⟨59, _⟩ => ⟨S16x4x2048x2048, .f32⟩
  | .hbm, ⟨60, _⟩ => ⟨S16x4x2048x2048, .f32⟩
  | .hbm, ⟨61, _⟩ => ⟨S16x4x2048x128, .f32⟩
  | .hbm, ⟨62, _⟩ => ⟨S16x2048x4x128, .f32⟩
  | .hbm, ⟨63, _⟩ => ⟨S16x2048x512, .f32⟩
  | .hbm, ⟨64, _⟩ => ⟨S16x2048x512, .bf16⟩
  | _, _ => ⟨S16x2048x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Merge.lean ====
abbrev S32768x2048 : Shape := ⟨2, ![32768, 2048]⟩
abbrev S32768x512 : Shape := ⟨2, ![32768, 512]⟩
abbrev S4x2048x2048 : Shape := ⟨3, ![4, 2048, 2048]⟩
abbrev S4x512x2048 : Shape := ⟨3, ![4, 512, 2048]⟩
abbrev S512x2048 : Shape := ⟨2, ![512, 2048]⟩
abbrev S512x512 : Shape := ⟨2, ![512, 512]⟩
abbrev S4x2048x512 : Shape := ⟨3, ![4, 2048, 512]⟩
abbrev S4x512x512 : Shape := ⟨3, ![4, 512, 512]⟩
abbrev S1x2048x512 : Shape := ⟨3, ![1, 2048, 512]⟩
abbrev S2048x512 : Shape := ⟨2, ![2048, 512]⟩
abbrev S1x512x512 : Shape := ⟨3, ![1, 512, 512]⟩

abbrev nBuf : Space → Nat
  | .hbm => 10
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S4x2048x2048, .f32⟩
  | .hbm, ⟨6, _⟩ => ⟨S4x512x2048, .f32⟩
  | .hbm, ⟨7, _⟩ => ⟨S4x2048x2048, .bf16⟩
  | .hbm, ⟨8, _⟩ => ⟨S4x512x2048, .bf16⟩
  | .hbm, ⟨9, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x2048x512, .bf16⟩
  | .local _ .vmem, ⟨11, _⟩ => ⟨S4x2048x512, .bf16⟩
  | .local _ .vmem, ⟨12, _⟩ => ⟨S4x512x512, .bf16⟩
  | .local _ .vmem, ⟨13, _⟩ => ⟨S4x512x512, .bf16⟩
  | .local _ .vmem, ⟨14, _⟩ => ⟨S512x512, .bf16⟩
  | .local _ .vmem, ⟨15, _⟩ => ⟨S512x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S32768x2048 : Shape := ⟨2, ![32768, 2048]⟩
abbrev S32768x512 : Shape := ⟨2, ![32768, 512]⟩
abbrev S4x2048x2048 : Shape := ⟨3, ![4, 2048, 2048]⟩
abbrev S4x512x2048 : Shape := ⟨3, ![4, 512, 2048]⟩
abbrev S1x2048x2048 : Shape := ⟨3, ![1, 2048, 2048]⟩
abbrev S2048x2048 : Shape := ⟨2, ![2048, 2048]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 76
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S4x2048x2048, .f32⟩
  | .hbm, ⟨6, _⟩ => ⟨S4x512x2048, .f32⟩
  | .hbm, ⟨7, _⟩ => ⟨S32768x2048, .f32⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S1x2048x2048, .f32⟩
  | .hbm, ⟨13, _⟩ => ⟨S2048x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768x2048, .f32⟩
  | .hbm, ⟨22, _⟩ => ⟨S32768x2048, .f32⟩
  | .hbm, ⟨23, _⟩ => ⟨S1x512x2048, .f32⟩
  | .hbm, ⟨24, _⟩ => ⟨S512x2048, .f32⟩
  | .hbm, ⟨25, _⟩ => ⟨S32768x2048, .f32⟩
  | .hbm, ⟨26, _⟩ => ⟨S32768x2048, .f32⟩
  | .hbm, ⟨27, _⟩ => ⟨S1x2048x2048, .f32⟩
  | .hbm, ⟨28, _⟩ => ⟨S2048x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S1x512x2048, .f32⟩
  | .hbm, ⟨39, _⟩ => ⟨S512x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S1x2048x2048, .f32⟩
  | .hbm, ⟨44, _⟩ => ⟨S2048x2048, .f32⟩
  | .hbm, ⟨45, _⟩ => ⟨S32768x2048, .f32⟩
  | .hbm, ⟨46, _⟩ => ⟨S32768x2048, .f32⟩
  | .hbm, ⟨47, _⟩ => ⟨S32768x2048, .f32⟩
  | .hbm, ⟨48, _⟩ => ⟨S_, .f32⟩
  | .hbm, ⟨49, _⟩ => ⟨S32768x2048, .f32⟩
  | .hbm, ⟨50, _⟩ => ⟨S32768x2048, .f32⟩
  | .hbm, ⟨51, _⟩ => ⟨S_, .f32⟩
  | .hbm, ⟨52, _⟩ => ⟨S32768x2048, .f32⟩
  | .hbm, ⟨53, _⟩ => ⟨S32768x2048, .f32⟩
  | .hbm, ⟨54, _⟩ => ⟨S1x512x2048, .f32⟩
  | .hbm, ⟨55, _⟩ => ⟨S512x2048, .f32⟩
  | .hbm, ⟨56, _⟩ => ⟨S32768x2048, .f32⟩
  | .hbm, ⟨57, _⟩ => ⟨S32768x2048, .f32⟩
  | .hbm, ⟨58, _⟩ => ⟨S32768x2048, .f32⟩
  | .hbm, ⟨59, _⟩ => ⟨S1x2048x2048, .f32⟩
  | .hbm, ⟨60, _⟩ => ⟨S2048x2048, .f32⟩
  | .hbm, ⟨61, _⟩ => ⟨S32768x2048, .f32⟩
  | .hbm, ⟨62, _⟩ => ⟨S32768x2048, .f32⟩
  | .hbm, ⟨63, _⟩ => ⟨S32768x2048, .f32⟩
  | .hbm, ⟨64, _⟩ => ⟨S_, .f32⟩
  | .hbm, ⟨65, _⟩ => ⟨S32768x2048, .f32⟩
  | .hbm, ⟨66, _⟩ => ⟨S32768x2048, .f32⟩
  | .hbm, ⟨67, _⟩ => ⟨S_, .f32⟩
  | .hbm, ⟨68, _⟩ => ⟨S32768x2048, .f32⟩
  | .hbm, ⟨69, _⟩ => ⟨S32768x2048, .f32⟩
  | .hbm, ⟨70, _⟩ => ⟨S1x512x2048, .f32⟩
  | .hbm, ⟨71, _⟩ => ⟨S512x2048, .f32⟩
  | .hbm, ⟨72, _⟩ => ⟨S32768x2048, .f32⟩
  | .hbm, ⟨73, _⟩ => ⟨S32768x2048, .f32⟩
  | .hbm, ⟨74, _⟩ => ⟨S32768x2048, .f32⟩
  | .hbm, ⟨75, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== Plain.lean ====
abbrev S32768x2048 : Shape := ⟨2, ![32768, 2048]⟩
abbrev S2048x4352 : Shape := ⟨2, ![2048, 4352]⟩
abbrev S32768x4352 : Shape := ⟨2, ![32768, 4352]⟩
abbrev S512x2048 : Shape := ⟨2, ![512, 2048]⟩
abbrev S2048x2176 : Shape := ⟨2, ![2048, 2176]⟩
abbrev S512x2176 : Shape := ⟨2, ![512, 2176]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x4352, .bf16⟩
  | .hbm, ⟨2, _⟩ => ⟨S32768x4352, .bf16⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S2048x2176, .bf16⟩
  | .local _ .vmem, ⟨4, _⟩ => ⟨S512x2176, .bf16⟩
  | .local _ .vmem, ⟨5, _⟩ => ⟨S512x2176, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainRefIdeal.lean ====
abbrev S32768x2048 : Shape := ⟨2, ![32768, 2048]⟩
abbrev S2048x4352 : Shape := ⟨2, ![2048, 4352]⟩
abbrev S32768x4352 : Shape := ⟨2, ![32768, 4352]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4352, .bf16⟩
  | .hbm, ⟨2, _⟩ => ⟨S32768x2048, .f32⟩
  | .hbm, ⟨3, _⟩ => ⟨S2048x4352, .f32⟩
  | .hbm, ⟨4, _⟩ => ⟨S32768x4352, .f32⟩
  | .hbm, ⟨5, _⟩ => ⟨S32768x4352, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Rotary.lean ====
abbrev S32768x2048 : Shape := ⟨2, ![32768, 2048]⟩
abbrev S2048x1280 : Shape := ⟨2, ![2048, 1280]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩
abbrev S64 : Shape := ⟨1, ![64]⟩
abbrev S_ : Shape := ⟨0, ![]⟩
abbrev S1x64 : Shape := ⟨2, ![1, 64]⟩
abbrev S2048x64 : Shape := ⟨2, ![2048, 64]⟩
abbrev S32 : Shape := ⟨1, ![32]⟩
abbrev S1x32 : Shape := ⟨2, ![1, 32]⟩
abbrev S2048x32 : Shape := ⟨2, ![2048, 32]⟩
abbrev S32768x1280 : Shape := ⟨2, ![32768, 1280]⟩
abbrev S32768x1024 : Shape := ⟨2, ![32768, 1024]⟩
abbrev S32768x128 : Shape := ⟨2, ![32768, 128]⟩
abbrev S512x2048 : Shape := ⟨2, ![512, 2048]⟩
abbrev S512x128 : Shape := ⟨2, ![512, 128]⟩
abbrev S512x1280 : Shape := ⟨2, ![512, 1280]⟩
abbrev S512x1024 : Shape := ⟨2, ![512, 1024]⟩

abbrev nBuf : Space → Nat
  | .hbm => 61
  | .vmem => 21
  | .smem => 0
  | _ => 0

abbrev bufTy : (tb : Table) → Fin (tcTables nBuf tb) → BufTy
  | .hbm, ⟨0, _⟩ => ⟨S32768x2048, .bf16⟩
  | .hbm, ⟨1, _⟩ => ⟨S2048x1280, .bf16⟩
  | .hbm, ⟨2, _⟩ => ⟨S2048x1024, .bf16⟩
  | .hbm, ⟨3, _⟩ => ⟨S2048x128, .bf16⟩
  | .hbm, ⟨4, _⟩ => ⟨S2048, .f32⟩
  | .hbm, ⟨5, _⟩ => ⟨S2048x1, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x128, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x128, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S32, .f32⟩
  | .hbm, ⟨45, _⟩ => ⟨S1x32, .f32⟩
  | .hbm, ⟨46, _⟩ => ⟨S2048x32, .f32⟩
  | .hbm, ⟨47, _⟩ => ⟨S2048x32, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S_, .f32⟩
  | .hbm, ⟨52, _⟩ => ⟨S2048x32, .f32⟩
  | .hbm, ⟨53, _⟩ => ⟨S2048x128, .f32⟩
  | .hbm, ⟨54, _⟩ => ⟨S2048x32, .f32⟩
  | .hbm, ⟨55, _⟩ => ⟨S2048x32, .f32⟩
  | .hbm, ⟨56, _⟩ => ⟨S2048x128, .f32⟩
  | .hbm, ⟨57, _⟩ => ⟨S2048x128, .f32⟩
  | .hbm, ⟨58, _⟩ => ⟨S32768x1280, .bf16⟩
  | .hbm, ⟨59, _⟩ => ⟨S32768x1024, .bf16⟩
  | .hbm, ⟨60, _⟩ => ⟨S32768x128, .f32⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S2048x1024, .bf16⟩
  | .local _ .vmem, ⟨4, _⟩ => ⟨S2048x128, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x1280, .bf16⟩
  | .local _ .vmem, ⟨16, _⟩ => ⟨S512x1280, .bf16⟩
  | .local _ .vmem, ⟨17, _⟩ => ⟨S512x1024, .bf16⟩
  | .local _ .vmem, ⟨18, _⟩ => ⟨S512x1024, .bf16⟩
  | .local _ .vmem, ⟨19, _⟩ => ⟨S512x128, .f32⟩
  | .local _ .vmem, ⟨20, _⟩ => ⟨S512x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev main_v45_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RotaryRefIdeal.lean ====
abbrev S32768x2048 : Shape := ⟨2, ![32768, 2048]⟩
abbrev S2048x1280 : Shape := ⟨2, ![2048, 1280]⟩
abbrev S2048x1024 : Shape := ⟨2, ![2048, 1024]⟩
abbrev S2048x128 : Shape := ⟨2, ![2048, 128]⟩
abbrev S32768x1280 : Shape := ⟨2, ![32768, 1280]⟩
abbrev S16x2048x10x128 : Shape := ⟨4, ![16, 2048, 10, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S16x2048x10x64 : Shape := ⟨4, ![16, 2048, 10, 64]⟩
abbrev S1x2048x1x64 : Shape := ⟨4, ![1, 2048, 1, 64]⟩
abbrev S32768x1024 : Shape := ⟨2, ![32768, 1024]⟩
abbrev S16x2048x16x64 : Shape := ⟨4, ![16, 2048, 16, 64]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S16x2048x16x32 : Shape := ⟨4, ![16, 2048, 16, 32]⟩
abbrev S1x2048x1x32 : Shape := ⟨4, ![1, 2048, 1, 32]⟩
abbrev S32768x128 : Shape := ⟨2, ![32768, 128]⟩

abbrev nBuf : Space → Nat
  | .hbm => 99
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1280, .bf16⟩
  | .hbm, ⟨2, _⟩ => ⟨S2048x1024, .bf16⟩
  | .hbm, ⟨3, _⟩ => ⟨S2048x128, .bf16⟩
  | .hbm, ⟨4, _⟩ => ⟨S32768x2048, .f32⟩
  | .hbm, ⟨5, _⟩ => ⟨S2048x1280, .f32⟩
  | .hbm, ⟨6, _⟩ => ⟨S2048x1024, .f32⟩
  | .hbm, ⟨7, _⟩ => ⟨S2048x128, .f32⟩
  | .hbm, ⟨8, _⟩ => ⟨S32768x1280, .f32⟩
  | .hbm, ⟨9, _⟩ => ⟨S16x2048x10x128, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S2048, .f32⟩
  | .hbm, ⟨25, _⟩ => ⟨S2048x1, .f32⟩
  | .hbm, ⟨26, _⟩ => ⟨S1x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x1x64, .f32⟩
  | .hbm, ⟨32, _⟩ => ⟨S2048x64, .f32⟩
  | .hbm, ⟨33, _⟩ => ⟨S2048x1x64, .f32⟩
  | .hbm, ⟨34, _⟩ => ⟨S16x2048x10x64, .f32⟩
  | .hbm, ⟨35, _⟩ => ⟨S16x2048x10x64, .f32⟩
  | .hbm, ⟨36, _⟩ => ⟨S1x2048x1x64, .f32⟩
  | .hbm, ⟨37, _⟩ => ⟨S16x2048x10x64, .f32⟩
  | .hbm, ⟨38, _⟩ => ⟨S16x2048x10x64, .f32⟩
  | .hbm, ⟨39, _⟩ => ⟨S1x2048x1x64, .f32⟩
  | .hbm, ⟨40, _⟩ => ⟨S16x2048x10x64, .f32⟩
  | .hbm, ⟨41, _⟩ => ⟨S16x2048x10x64, .f32⟩
  | .hbm, ⟨42, _⟩ => ⟨S16x2048x10x64, .f32⟩
  | .hbm, ⟨43, _⟩ => ⟨S1x2048x1x64, .f32⟩
  | .hbm, ⟨44, _⟩ => ⟨S16x2048x10x64, .f32⟩
  | .hbm, ⟨45, _⟩ => ⟨S16x2048x10x64, .f32⟩
  | .hbm, ⟨46, _⟩ => ⟨S1x2048x1x64, .f32⟩
  | .hbm, ⟨47, _⟩ => ⟨S16x2048x10x64, .f32⟩
  | .hbm, ⟨48, _⟩ => ⟨S16x2048x10x64, .f32⟩
  | .hbm, ⟨49, _⟩ => ⟨S16x2048x10x64, .f32⟩
  | .hbm, ⟨50, _⟩ => ⟨S16x2048x10x128, .f32⟩
  | .hbm, ⟨51, _⟩ => ⟨S32768x1280, .f32⟩
  | .hbm, ⟨52, _⟩ => ⟨S32768x1024, .f32⟩
  | .hbm, ⟨53, _⟩ => ⟨S16x2048x16x64, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S2048, .f32⟩
  | .hbm, ⟨69, _⟩ => ⟨S2048x1, .f32⟩
  | .hbm, ⟨70, _⟩ => ⟨S1x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S2048x1x32, .f32⟩
  | .hbm, ⟨76, _⟩ => ⟨S2048x32, .f32⟩
  | .hbm, ⟨77, _⟩ => ⟨S2048x1x32, .f32⟩
  | .hbm, ⟨78, _⟩ => ⟨S16x2048x16x32, .f32⟩
  | .hbm, ⟨79, _⟩ => ⟨S16x2048x16x32, .f32⟩
  | .hbm, ⟨80, _⟩ => ⟨S1x2048x1x32, .f32⟩
  | .hbm, ⟨81, _⟩ => ⟨S16x2048x16x32, .f32⟩
  | .hbm, ⟨82, _⟩ => ⟨S16x2048x16x32, .f32⟩
  | .hbm, ⟨83, _⟩ => ⟨S1x2048x1x32, .f32⟩
  | .hbm, ⟨84, _⟩ => ⟨S16x2048x16x32, .f32⟩
  | .hbm, ⟨85, _⟩ => ⟨S16x2048x16x32, .f32⟩
  | .hbm, ⟨86, _⟩ => ⟨S16x2048x16x32, .f32⟩
  | .hbm, ⟨87, _⟩ => ⟨S1x2048x1x32, .f32⟩
  | .hbm, ⟨88, _⟩ => ⟨S16x2048x16x32, .f32⟩
  | .hbm, ⟨89, _⟩ => ⟨S16x2048x16x32, .f32⟩
  | .hbm, ⟨90, _⟩ => ⟨S1x2048x1x32, .f32⟩
  | .hbm, ⟨91, _⟩ => ⟨S16x2048x16x32, .f32⟩
  | .hbm, ⟨92, _⟩ => ⟨S16x2048x16x32, .f32⟩
  | .hbm, ⟨93, _⟩ => ⟨S16x2048x16x32, .f32⟩
  | .hbm, ⟨94, _⟩ => ⟨S16x2048x16x64, .f32⟩
  | .hbm, ⟨95, _⟩ => ⟨S32768x1024, .f32⟩
  | .hbm, ⟨96, _⟩ => ⟨S32768x1280, .bf16⟩
  | .hbm, ⟨97, _⟩ => ⟨S32768x1024, .bf16⟩
  | .hbm, ⟨98, _⟩ => ⟨S32768x128, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩

abbrev nD : Nat := 1
abbrev τ : Topo := Topo.v7x

variable {F : FTy → Type} [FloatOps F]
-- ==== Output.lean ====
abbrev S32768x2048 : Shape := ⟨2, ![32768, 2048]⟩
abbrev S2048x2048 : Shape := ⟨2, ![2048, 2048]⟩
abbrev S2048 : Shape := ⟨1, ![2048]⟩
abbrev S2048x128 : Shape := ⟨2, ![2048, 128]⟩
abbrev S1x128 : Shape := ⟨2, ![1, 128]⟩
abbrev S1x2048 : Shape := ⟨2, ![1, 2048]⟩
abbrev S524288x128 : Shape := ⟨2, ![524288, 128]⟩
abbrev S32768x128 : Shape := ⟨2, ![32768, 128]⟩
abbrev S512x2048 : Shape := ⟨2, ![512, 2048]⟩
abbrev S8192x128 : Shape := ⟨2, ![8192, 128]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 10
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x2048, .bf16⟩
  | .hbm, ⟨3, _⟩ => ⟨S2048, .f32⟩
  | .hbm, ⟨4, _⟩ => ⟨S2048x128, .bf16⟩
  | .hbm, ⟨5, _⟩ => ⟨S1x128, .f32⟩
  | .hbm, ⟨6, _⟩ => ⟨S1x2048, .f32⟩
  | .hbm, ⟨7, _⟩ => ⟨S32768x2048, .f32⟩
  | .hbm, ⟨8, _⟩ => ⟨S524288x128, .f32⟩
  | .hbm, ⟨9, _⟩ => ⟨S32768x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S8192x128, .f32⟩
  | .local _ .vmem, ⟨11, _⟩ => ⟨S8192x128, .f32⟩
  | .local _ .vmem, ⟨12, _⟩ => ⟨S512x128, .f32⟩
  | .local _ .vmem, ⟨13, _⟩ => ⟨S512x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutputRefIdeal.lean ====
abbrev S32768x2048 : Shape := ⟨2, ![32768, 2048]⟩
abbrev S2048x2048 : Shape := ⟨2, ![2048, 2048]⟩
abbrev S2048 : Shape := ⟨1, ![2048]⟩
abbrev S2048x128 : Shape := ⟨2, ![2048, 128]⟩
abbrev S1x128 : Shape := ⟨2, ![1, 128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S524288x128 : Shape := ⟨2, ![524288, 128]⟩

abbrev nBuf : Space → Nat
  | .hbm => 27
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x2048, .bf16⟩
  | .hbm, ⟨3, _⟩ => ⟨S2048, .f32⟩
  | .hbm, ⟨4, _⟩ => ⟨S2048x128, .bf16⟩
  | .hbm, ⟨5, _⟩ => ⟨S1x128, .f32⟩
  | .hbm, ⟨6, _⟩ => ⟨S32768x2048, .f32⟩
  | .hbm, ⟨7, _⟩ => ⟨S2048x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | .hbm, ⟨26, _⟩ => ⟨S524288x128, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Fox.Math.lean ====
/-
  The mathematics of one row of the forgetting attention, over the extended reals.

  A row of the kernel keeps a running maximum `m`, a running normaliser `l` and a running weighted
  sum `acc`, all scaled by `2 ^ (-m)`.  `Inv` says what the three mean; `Inv.step` carries it over
  one chunk of keys; `Inv.out` divides.  `reference_row` is the same row computed at once with
  exponentials to the base e.  Both are brought to `(∑ g)⁻¹ * ∑ g * v` with the same real weights
  `g`.
-/
module

public import Idealize.ShloMosaic.PureOps.Ideal
public import Idealize.ShloMosaic.Lib.WordCmp
public import Mathlib.Data.EReal.Inv
public import Mathlib.Analysis.SpecialFunctions.Pow.Real

@[expose] public section

noncomputable section

namespace Fox

open Idealize.ShloMosaic

/-- A nonnegative real factor goes into a finite sum of extended reals. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- The coercion of a finite sum of reals is the sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real that is neither infinity is a real. -/
theorem exists_real {x : EReal} (hb : ⊥ < x) (ht : x < ⊤) : ∃ r : ℝ, x = (r : EReal) :=
  ⟨x.toReal, (EReal.coe_toReal ht.ne hb.ne').symm⟩

/-- The state of one row and one lane after some keys: `G` is the sum of their weights and `V` the
    sum of the weighted values; before the first key everything is empty. -/
def Inv (m l acc : EReal) (G : ℝ) (V : EReal) : Prop :=
  0 ≤ G ∧ ((m = ⊥ ∧ l = 0 ∧ acc = 0 ∧ G = 0 ∧ V = 0) ∨
    ∃ r : ℝ, m = (r : EReal) ∧ l = (((2 : ℝ) ^ (-r) * G : ℝ) : EReal)
      ∧ acc = (((2 : ℝ) ^ (-r) : ℝ) : EReal) * V)

/-- The state before the first key. -/
theorem Inv.start : Inv ⊥ 0 0 0 0 := ⟨le_refl 0, Or.inl ⟨rfl, rfl, rfl, rfl, rfl⟩⟩

/-- One chunk of logits `a` in base 2 and the weights `g` they stand for: a masked key has the
    logit `⊥` and the weight 0, any other a real logit; at least one key is not masked. -/
structure Chunk {n : ℕ} (a : Fin n → EReal) (g : Fin n → ℝ) : Prop where
  each : ∀ k, (a k = ⊥ ∧ g k = 0) ∨ ∃ x : ℝ, a k = (x : EReal) ∧ g k = (2 : ℝ) ^ x
  some_real : ∃ k, a k ≠ ⊥

variable {n : ℕ} {a : Fin n → EReal} {g : Fin n → ℝ}

/-- The weights of a chunk are not negative. -/
theorem Chunk.nonneg (h : Chunk a g) (k : Fin n) : 0 ≤ g k := by
  rcases h.each k with ⟨_, h0⟩ | ⟨x, _, hx⟩
  · exact h0.ge
  · rw [hx]; positivity

/-- The weights of a chunk have a positive sum. -/
theorem Chunk.sum_pos (h : Chunk a g) : 0 < ∑ k, g k := by
  obtain ⟨k, hk⟩ := h.some_real
  refine Finset.sum_pos' (fun i _ => h.nonneg i) ⟨k, Finset.mem_univ k, ?_⟩
  rcases h.each k with ⟨h0, _⟩ | ⟨x, _, hx⟩
  · exact absurd h0 hk
  · rw [hx]; positivity

/-- The maximum of a state's `m` and a chunk's logits is a real number. -/
theorem Chunk.max_real (h : Chunk a g) {m : EReal} (hm : m < ⊤) :
    ∃ r : ℝ, max m (Finset.univ.fold max ⊥ a) = (r : EReal) := by
  refine exists_real ?_ ?_
  · obtain ⟨k, hk⟩ := h.some_real
    exact lt_max_of_lt_right ((Finset.lt_fold_max _).2 (Or.inr ⟨k, Finset.mem_univ k, bot_lt_iff_ne_bot.2 hk⟩))
  · refine max_lt hm ((Finset.fold_max_lt _).2 ⟨bot_lt_top, fun k _ => ?_⟩)
    rcases h.each k with ⟨h0, _⟩ | ⟨x, hx, _⟩
    · rw [h0]; exact bot_lt_top
    · rw [hx]; exact EReal.coe_lt_top x

/-- A key's share of the normaliser at the running maximum `r` is its weight times `2 ^ (-r)`. -/
theorem Chunk.share (h : Chunk a g) (r : ℝ) (k : Fin n) :
    Ideal.exp2 (a k - (r : EReal)) = (((2 : ℝ) ^ (-r) * g k : ℝ) : EReal) := by
  rcases h.each k with ⟨h0, hg⟩ | ⟨x, hx, hg⟩
  · rw [h0, hg, EReal.bot_sub, Ideal.exp2_bot, mul_zero, EReal.coe_zero]
  · rw [hx, hg, ← EReal.coe_sub, Ideal.exp2_coe, ← Real.rpow_add two_pos]
    congr 2; ring

/-- One chunk of keys: the state after it, computed as the kernel does. -/
theorem Inv.step (h : Chunk a g) {m l acc : EReal} {G : ℝ} {V : EReal} (hI : Inv m l acc G V) (v : Fin n → EReal) :
    Inv (max m (Finset.univ.fold max ⊥ a))
      (Ideal.exp2 (m - max m (Finset.univ.fold max ⊥ a)) * l
        + ∑ k, Ideal.exp2 (a k - max m (Finset.univ.fold max ⊥ a)))
      (Ideal.exp2 (m - max m (Finset.univ.fold max ⊥ a)) * acc
        + ∑ k, Ideal.exp2 (a k - max m (Finset.univ.fold max ⊥ a)) * v k)
      (G + ∑ k, g k) (V + ∑ k, (g k : EReal) * v k) := by
  obtain ⟨hG, hI⟩ := hI
  have hm : m < ⊤ := by
    rcases hI with ⟨h0, _⟩ | ⟨r, hr, _⟩
    · rw [h0]; exact bot_lt_top
    · rw [hr]; exact EReal.coe_lt_top r
  obtain ⟨r', hr'⟩ := h.max_real hm
  have hs : ∑ k, Ideal.exp2 (a k - (r' : EReal)) = (((2 : ℝ) ^ (-r') * ∑ k, g k : ℝ) : EReal) := by
    rw [Finset.mul_sum, coe_sum]
    exact Finset.sum_congr rfl fun k _ => h.share r' k
  have hv : ∑ k, Ideal.exp2 (a k - (r' : EReal)) * v k
      = (((2 : ℝ) ^ (-r') : ℝ) : EReal) * ∑ k, (g k : EReal) * v k := by
    rw [coe_mul_sum _ _ (by positivity)]
    refine Finset.sum_congr rfl fun k _ => ?_
    rw [h.share r' k, EReal.coe_mul, mul_assoc]
  rw [hr', hs, hv]
  refine ⟨add_nonneg hG h.sum_pos.le, Or.inr ⟨r', rfl, ?_, ?_⟩⟩
  · rcases hI with ⟨_, hl, _, hG0, _⟩ | ⟨r, hr, hl, _⟩
    · rw [hl, hG0, mul_zero, zero_add, zero_add]
    · rw [hr, hl, ← EReal.coe_sub, Ideal.exp2_coe, ← EReal.coe_mul, ← EReal.coe_add]
      congr 1
      have : Real.rpow 2 (r - r') * 2 ^ (-r) = (2 : ℝ) ^ (-r') := by
        change (2 : ℝ) ^ (r - r') * 2 ^ (-r) = _
        rw [← Real.rpow_add two_pos]; congr 1; ring
      rw [← mul_assoc, this, mul_add]
  · rcases hI with ⟨_, _, ha, _, hV⟩ | ⟨r, hr, _, ha⟩
    · rw [ha, hV, mul_zero, zero_add, zero_add]
    · rw [hr, ha, ← EReal.coe_sub, Ideal.exp2_coe, ← mul_assoc, ← EReal.coe_mul]
      have : Real.rpow 2 (r - r') * 2 ^ (-r) = (2 : ℝ) ^ (-r') := by
        change (2 : ℝ) ^ (r - r') * 2 ^ (-r) = _
        rw [← Real.rpow_add two_pos]; congr 1; ring
      rw [this, EReal.left_distrib_of_nonneg_of_ne_top (EReal.coe_nonneg.2 (by positivity)) (EReal.coe_ne_top _)]

/-- The quotient at the end of a row is the weighted mean of the values. -/
theorem Inv.out {m l acc : EReal} {G : ℝ} {V : EReal} (hI : Inv m l acc G V) (hG : 0 < G) :
    Ideal.div acc l = ((G⁻¹ : ℝ) : EReal) * V := by
  rcases hI.2 with ⟨_, _, _, h0, _⟩ | ⟨r, _, hl, ha⟩
  · exact absurd h0 hG.ne'
  · have hp : (0 : ℝ) < 2 ^ (-r) := by positivity
    have hne : (((2 : ℝ) ^ (-r) * G : ℝ) : EReal) ≠ 0 := by
      rw [Ne, EReal.coe_eq_zero]; positivity
    rw [hl, ha, Ideal.div, if_neg hne, ← EReal.coe_inv, mul_comm _ V, mul_assoc, ← EReal.coe_mul, mul_comm V]
    congr 2
    field_simp

variable {N : ℕ}

/-- The row as the reference computes it: the exponentials of the scores `s` less their maximum,
    over their sum (or a small number `ε`, never reached), weighting the values. A key that is not
    attended has the score `⊥`. -/
theorem reference_row (s : Fin N → EReal) (P : Fin N → Prop) [DecidablePred P] (x : Fin N → ℝ) (c : ℝ) (ε : EReal)
    (v : Fin N → EReal) (hs : ∀ k, s k = if P k then (x k : EReal) else ⊥) (hP : ∃ k, P k) (hε : ε ≤ 1)
    (M : EReal) (hM : M = Finset.univ.fold max ⊥ s) :
    (∃ R : ℝ, M = (R : EReal)) ∧
    ∑ k, Ideal.div (if P k then Ideal.exp (s k - M) else 0) (max (∑ k, if P k then Ideal.exp (s k - M) else 0) ε) * v k
      = (((∑ k, if P k then Real.exp (x k - c) else 0)⁻¹ : ℝ) : EReal)
        * ∑ k, ((if P k then Real.exp (x k - c) else 0 : ℝ) : EReal) * v k := by
  have hreal : ∃ R : ℝ, M = (R : EReal) := by
    rw [hM]
    refine exists_real ?_ ?_
    · obtain ⟨k, hk⟩ := hP
      refine (Finset.lt_fold_max _).2 (Or.inr ⟨k, Finset.mem_univ k, ?_⟩)
      rw [hs, if_pos hk]; exact EReal.bot_lt_coe _
    · refine (Finset.fold_max_lt _).2 ⟨bot_lt_top, fun k _ => ?_⟩
      rw [hs]; split
      · exact EReal.coe_lt_top _
      · exact bot_lt_top
  refine ⟨hreal, ?_⟩
  obtain ⟨R, hR⟩ := hreal
  have he : ∀ k, (if P k then Ideal.exp (s k - M) else 0) = ((if P k then Real.exp (x k - R) else 0 : ℝ) : EReal) := by
    intro k
    split
    · rename_i hk
      rw [hs, if_pos hk, hR, ← EReal.coe_sub, Ideal.exp_coe]
    · exact EReal.coe_zero.symm
  have h1 : (1 : ℝ) ≤ ∑ k, if P k then Real.exp (x k - R) else 0 := by
    have hle : M ≤ Finset.univ.fold max ⊥ s := hM.le
    rcases (Finset.le_fold_max _).1 hle with hb | ⟨k, -, hk⟩
    · rw [hR] at hb; exact absurd hb (not_le.2 (EReal.bot_lt_coe R))
    · have hPk : P k := by
        by_contra hn
        rw [hs, if_neg hn, hR] at hk; exact absurd hk (not_le.2 (EReal.bot_lt_coe R))
      rw [hs, if_pos hPk, hR, EReal.coe_le_coe_iff] at hk
      have hk1 : (1 : ℝ) ≤ (if P k then Real.exp (x k - R) else 0) := by
        rw [if_pos hPk]; exact Real.one_le_exp (sub_nonneg.2 hk)
      refine hk1.trans (Finset.single_le_sum (f := fun k => if P k then Real.exp (x k - R) else 0) (fun i _ => ?_) (Finset.mem_univ k))
      split
      · exact (Real.exp_pos _).le
      · exact le_refl 0
  have hE : ∀ k, (if P k then Real.exp (x k - R) else 0) = Real.exp (c - R) * (if P k then Real.exp (x k - c) else 0) := by
    intro k; split
    · rw [← Real.exp_add]; congr 1; ring
    · rw [mul_zero]
  have hS : (∑ k, if P k then Real.exp (x k - R) else 0) = Real.exp (c - R) * ∑ k, if P k then Real.exp (x k - c) else 0 := by
    rw [Finset.mul_sum]; exact Finset.sum_congr rfl fun k _ => hE k
  have hpos : 0 < ∑ k, if P k then Real.exp (x k - c) else 0 := by
    have : 0 < Real.exp (c - R) * ∑ k, if P k then Real.exp (x k - c) else 0 := by
      rw [← hS]; linarith
    exact (mul_pos_iff_of_pos_left (Real.exp_pos _)).1 this
  have hden : max (∑ k, if P k then Ideal.exp (s k - M) else 0) ε
      = ((∑ k, if P k then Real.exp (x k - R) else 0 : ℝ) : EReal) := by
    rw [Finset.sum_congr rfl fun k _ => he k, ← coe_sum]
    refine max_eq_left (hε.trans ?_)
    rw [← EReal.coe_one, EReal.coe_le_coe_iff]; exact h1
  rw [hden, coe_mul_sum _ _ (inv_nonneg.2 hpos.le)]
  refine Finset.sum_congr rfl fun k _ => ?_
  rw [he k, Ideal.div, if_neg (fun h0 => by rw [EReal.coe_eq_zero] at h0; linarith), ← EReal.coe_inv, ← EReal.coe_mul, ← mul_assoc, ← EReal.coe_mul]
  congr 2
  have := (Real.exp_pos (c - R)).ne'
  rw [hS, hE k]
  field_simp

/-- A base-2 exponential of a logit divided by `log 2` is the exponential to the base e. -/
theorem two_rpow_div_log (y : ℝ) : (2 : ℝ) ^ (y * (Real.log 2)⁻¹) = Real.exp y := by
  have h : Real.log 2 ≠ 0 := (Real.log_pos one_lt_two).ne'
  rw [Real.rpow_def_of_pos two_pos]
  congr 1
  field_simp

/-- The word of minus infinity denotes `⊥`. -/
theorem neg_infinity : Ideal.ofBits FTy.f32 4286578688#32 = ⊥ := by simp [Ideal.ofBits, Ideal.ieee]

/-- The word of plus infinity denotes `⊤`. -/
theorem pos_infinity : Ideal.ofBits FTy.f32 2139095040#32 = ⊤ := by simp [Ideal.ofBits, Ideal.ieee]

/-- The score's scale, the f32 nearest to 1/√128. -/
abbrev scale : ℝ := 11863283 / 134217728

/-- A selection by a comparison of two small words is a selection by the numbers' order. -/
theorem select_sle {a b : ℕ} (ha : a < 2 ^ 31) (hb : b < 2 ^ 31) (x y : EReal) :
    Scalar.select (IntOp.cmpi CmpIPredicate.sle (BitVec.ofNat 32 a) (BitVec.ofNat 32 b)) x y = if a ≤ b then x else y := by
  rw [WordCmp.cmpi_sle_ofNat ha hb]
  by_cases h : a ≤ b <;> simp [h, Scalar.select]

/-- The weight of a key whose product with the query is `D` and whose log-forget sum is `s`. -/
def weight (D s : ℝ) : ℝ := Real.exp (D * scale - s)

/-- A logit in base 2 and its weight. -/
theorem weight_eq (D s : ℝ) : weight D s = (2 : ℝ) ^ (D * (scale * (Real.log 2)⁻¹) - s * (Real.log 2)⁻¹) := by
  rw [weight, ← two_rpow_div_log]; congr 1; ring

end Fox
-- ==== Proof.Fox.Steps.lean ====
/-
  The steps of the kernel's body on one query tile, read at one row: the logits of a chunk of keys,
  the running maximum, normaliser and weighted sum after the chunk, and the quotient at the end.
  The functions are the printed ones of the second branch, which every other branch repeats.
-/
module

public import proofs.«01_k».proof.Proof.Gen.KernelIdeal.Frame
public import proofs.«01_k».proof.Proof.Fox.Math
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen _root_.Fox

/-- The logits' factor is the scale over `log 2`. -/
theorem scale_log2e : (Named.named KernelIdeal.κ "scale_log2e" 1040356334#32 : Ideal .f32) = ((scale * (Real.log 2)⁻¹ : ℝ) : EReal) :=
  IdealRules.named_const.ideal_named_scalar _ _ _ _ rfl

/-- The factor of the log-forget sums is 1 over `log 2`. -/
theorem log2e : (Named.named KernelIdeal.κ "log2e" 1069066811#32 : Ideal .f32) = (((Real.log 2)⁻¹ : ℝ) : EReal) :=
  IdealRules.named_const.ideal_named_scalar _ _ _ _ rfl

/-- The logits of a chunk: the scaled product less the scaled log-forget sum, both over `log 2`. -/
theorem logits_at (q : FVec Ideal S512x128 .bf16) (kb : FVec Ideal S1x512x128 .bf16) (cb : FVec Ideal S1x1x512 .f32) (r κ : Fin 512) :
    k0_pay26 (F := Ideal) q kb cb (ix2 r κ) = (∑ x, q (ix2 r x) * kb (ix3 0 κ x)) * ((scale * (Real.log 2)⁻¹ : ℝ) : EReal)
      - cb (ix3 0 0 κ) * (((Real.log 2)⁻¹ : ℝ) : EReal) := by
  pointwise [k0_pay26]
  rw [scale_log2e, log2e]

/-- The logits of the diagonal chunk: those after the query are `⊥`. -/
theorem masked_at (q : FVec Ideal S512x128 .bf16) (kb : FVec Ideal S1x512x128 .bf16) (cb : FVec Ideal S1x1x512 .f32) (r κ : Fin 512) :
    k0_pay20 (F := Ideal) q kb cb (ix2 r κ) = if κ.val ≤ r.val then
      (∑ x, q (ix2 r x) * kb (ix3 0 κ x)) * ((scale * (Real.log 2)⁻¹ : ℝ) : EReal) - cb (ix3 0 0 κ) * (((Real.log 2)⁻¹ : ℝ) : EReal) else ⊥ := by
  pointwise [k0_pay20]
  rw [scale_log2e, log2e, neg_infinity]
  exact select_sle (by omega) (by omega) _ _

/-- The running maximum after a chunk. -/
theorem max_at (a : FVec Ideal S512x512 .f32) (M : FVec Ideal S512x128 .f32) (r : Fin 512) (d : Fin 128) :
    k0_pay35 (F := Ideal) a M (ix2 r d) = max (M (ix2 r d)) (Finset.univ.fold max ⊥ fun x => a (ix2 r x)) := by
  pointwise [k0_pay35, k0_pay30]
  rw [neg_infinity]

/-- The normaliser after a chunk, on a row whose lanes hold one running maximum. -/
theorem den_at (a : FVec Ideal S512x512 .f32) (M L : FVec Ideal S512x128 .f32) (r : Fin 512) (d : Fin 128) (μ : EReal)
    (hM : ∀ d, M (ix2 r d) = μ) :
    k0_pay33 (F := Ideal) a M L (ix2 r d)
      = Ideal.exp2 (μ - max μ (Finset.univ.fold max ⊥ fun x => a (ix2 r x))) * L (ix2 r d)
        + ∑ x, Ideal.exp2 (a (ix2 r x) - max μ (Finset.univ.fold max ⊥ fun x => a (ix2 r x))) := by
  pointwise [k0_pay33, k0_pay32, k0_pay31, k0_pay30]
  simp only [hM, neg_infinity, dite_eq_ite, ite_self]
  rfl

/-- The weighted sum after a chunk, on a row whose lanes hold one running maximum. -/
theorem acc_at (a : FVec Ideal S512x512 .f32) (v : FVec Ideal S1x512x128 .bf16) (M A : FVec Ideal S512x128 .f32) (r : Fin 512) (d : Fin 128)
    (μ : EReal) (hM : ∀ d, M (ix2 r d) = μ) :
    k0_pay34 (F := Ideal) a v M A (ix2 r d)
      = Ideal.exp2 (μ - max μ (Finset.univ.fold max ⊥ fun x => a (ix2 r x))) * A (ix2 r d)
        + ∑ x, Ideal.exp2 (a (ix2 r x) - max μ (Finset.univ.fold max ⊥ fun x => a (ix2 r x))) * v (ix3 0 x d) := by
  pointwise [k0_pay34, k0_pay32, k0_pay31, k0_pay30]
  simp only [hM, neg_infinity, dite_eq_ite, ite_self]
  rfl

/-- The quotient stored at the end. -/
theorem out_at (A L : FVec Ideal S512x128 .f32) (r : Fin 512) (d : Fin 128) :
    k0_pay8 (F := Ideal) A L (ix3 (0 : Fin 1) r d) = Ideal.div (A (ix2 r d)) (L (ix2 r d)) := by
  pointwise [k0_pay8]

/-- The three scratch arrays before the first chunk. -/
theorem init_at (r : Fin 512) (d : Fin 128) :
    k0_pay23 (F := Ideal) (ix2 r d) = ⊥ ∧ k0_pay24 (F := Ideal) (ix2 r d) = 0 ∧ k0_pay25 (F := Ideal) (ix2 r d) = 0 := by
  pointwise [k0_pay23, k0_pay24, k0_pay25]
  exact neg_infinity

/-- The query tile as a matrix. -/
theorem q_at (x : FVec Ideal S1x512x128 .bf16) (r : Fin 512) (d : Fin 128) :
    k0_pay1 (F := Ideal) x (ix2 r d) = x (ix3 0 r d) := by
  pointwise [k0_pay1]

/-- Row `r` of the three scratch arrays after some keys, of which `G` is the weight and `W d` the weighted sum of values
    in lane `d`. -/
def RowState (M L A : FVec Ideal S512x128 .f32) (r : Fin 512) (G : ℝ) (W : Fin 128 → EReal) : Prop :=
  ∃ μ l : EReal, (∀ d, M (ix2 r d) = μ) ∧ (∀ d, L (ix2 r d) = l) ∧ ∀ d, Inv μ l (A (ix2 r d)) G (W d)

/-- The state the body starts from. -/
theorem RowState.start (r : Fin 512) : RowState (k0_pay23 (F := Ideal)) k0_pay24 k0_pay25 r 0 fun _ => 0 :=
  ⟨⊥, 0, fun d => (init_at r d).1, fun d => (init_at r d).2.1, fun d => by rw [(init_at r d).2.2]; exact Inv.start⟩

/-- One chunk of keys carries the state over. -/
theorem RowState.step {M L A : FVec Ideal S512x128 .f32} {r : Fin 512} {G : ℝ} {W : Fin 128 → EReal} (hI : RowState M L A r G W)
    (a : FVec Ideal S512x512 .f32) (v : FVec Ideal S1x512x128 .bf16) (g : Fin 512 → ℝ) (h : Chunk (fun x => a (ix2 r x)) g) :
    RowState (k0_pay35 (F := Ideal) a M) (k0_pay33 (F := Ideal) a M L) (k0_pay34 (F := Ideal) a v M A) r
      (G + ∑ x, g x) (fun d => W d + ∑ x, (g x : EReal) * v (ix3 0 x d)) := by
  obtain ⟨μ, l, hM, hL, hA⟩ := hI
  refine ⟨max μ (Finset.univ.fold max ⊥ fun x => a (ix2 r x)),
    Ideal.exp2 (μ - max μ (Finset.univ.fold max ⊥ fun x => a (ix2 r x))) * l
      + ∑ x, Ideal.exp2 (a (ix2 r x) - max μ (Finset.univ.fold max ⊥ fun x => a (ix2 r x))),
    fun d => by rw [max_at, hM], fun d => by rw [den_at a M L r d μ hM, hL], fun d => ?_⟩
  rw [acc_at a v M A r d μ hM]
  exact (hA d).step h fun x => v (ix3 0 x d)

/-- The quotient of a row is the weighted mean of its values. -/
theorem RowState.out {M L A : FVec Ideal S512x128 .f32} {r : Fin 512} {G : ℝ} {W : Fin 128 → EReal} (hI : RowState M L A r G W)
    (hG : 0 < G) (d : Fin 128) : k0_pay8 (F := Ideal) A L (ix3 (0 : Fin 1) r d) = ((G⁻¹ : ℝ) : EReal) * W d := by
  obtain ⟨μ, l, hM, hL, hA⟩ := hI
  rw [out_at, hL]
  exact (hA d).out hG

/-- A logit over real operands is real. -/
theorem logit_real (q : Fin 128 → EReal) (k : Fin 128 → EReal) (s : EReal) (q' k' : Fin 128 → ℝ) (s' : ℝ)
    (hq : ∀ d, q d = (q' d : EReal)) (hk : ∀ d, k d = (k' d : EReal)) (hs : s = (s' : EReal)) :
    (∑ x, q x * k x) * ((scale * (Real.log 2)⁻¹ : ℝ) : EReal) - s * (((Real.log 2)⁻¹ : ℝ) : EReal)
      = (((∑ x, q' x * k' x) * (scale * (Real.log 2)⁻¹) - s' * (Real.log 2)⁻¹ : ℝ) : EReal) := by
  rw [EReal.coe_sub, EReal.coe_mul, EReal.coe_mul, coe_sum, hs]
  congr 2
  exact Finset.sum_congr rfl fun x _ => by rw [hq, hk, EReal.coe_mul]

/-- A chunk before the diagonal: every key counts. -/
theorem chunk_full (q : FVec Ideal S512x128 .bf16) (kb : FVec Ideal S1x512x128 .bf16) (cb : FVec Ideal S1x1x512 .f32) (r : Fin 512)
    (q' : Fin 128 → ℝ) (k' : Fin 512 → Fin 128 → ℝ) (s' : Fin 512 → ℝ) (hq : ∀ d, q (ix2 r d) = (q' d : EReal))
    (hk : ∀ x d, kb (ix3 0 x d) = (k' x d : EReal)) (hs : ∀ x, cb (ix3 0 0 x) = (s' x : EReal)) :
    Chunk (fun x => k0_pay26 (F := Ideal) q kb cb (ix2 r x)) fun x => weight (∑ d, q' d * k' x d) (s' x) where
  each x := Or.inr ⟨_, (logits_at q kb cb r x).trans (logit_real _ _ _ q' (k' x) (s' x) hq (hk x) (hs x)), weight_eq _ _⟩
  some_real := ⟨r, by
    rw [logits_at, logit_real _ _ _ q' (k' r) (s' r) hq (hk r) (hs r)]; exact EReal.coe_ne_bot _⟩

/-- The diagonal chunk: the keys after the query have no weight. -/
theorem chunk_diag (q : FVec Ideal S512x128 .bf16) (kb : FVec Ideal S1x512x128 .bf16) (cb : FVec Ideal S1x1x512 .f32) (r : Fin 512)
    (q' : Fin 128 → ℝ) (k' : Fin 512 → Fin 128 → ℝ) (s' : Fin 512 → ℝ) (hq : ∀ d, q (ix2 r d) = (q' d : EReal))
    (hk : ∀ x d, kb (ix3 0 x d) = (k' x d : EReal)) (hs : ∀ x, cb (ix3 0 0 x) = (s' x : EReal)) :
    Chunk (fun x => k0_pay20 (F := Ideal) q kb cb (ix2 r x))
      fun x => if x.val ≤ r.val then weight (∑ d, q' d * k' x d) (s' x) else 0 where
  each x := by
    by_cases h : x.val ≤ r.val
    · refine Or.inr ⟨_, ?_, (if_pos h).trans (weight_eq _ _)⟩
      rw [masked_at, if_pos h]
      exact logit_real _ _ _ q' (k' x) (s' x) hq (hk x) (hs x)
    · exact Or.inl ⟨by rw [masked_at, if_neg h], if_neg h⟩
  some_real := ⟨r, by
    rw [masked_at, if_pos le_rfl, logit_real _ _ _ q' (k' r) (s' r) hq (hk r) (hs r)]; exact EReal.coe_ne_bot _⟩

end Cert.KernelIdeal.Fox
-- ==== Proof.Fox.Reference.lean ====
/-
  The reference's attention read at one entry of its result: the weighted mean of the values, the
  weights real numbers, when the queries, the keys and the log-forget sums are real numbers.
-/
module

public import proofs.«01_k».proof.Proof.Gen.ReferenceIdeal.Run
public import proofs.«01_k».proof.Proof.Gen.ReferenceIdeal.Read
public import proofs.«01_k».proof.Proof.Gen.Pre_finite
public import proofs.«01_k».proof.Proof.Fox.Math
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.ReferenceIdeal.Fox

open Cert.ReferenceIdeal Cert.ReferenceIdeal.Gen Cert.ReferenceIdeal.Facts Cert.ReferenceIdeal.Read _root_.Fox

variable (u : FVec Ideal S16x2048x4352 .bf16) (s : FVec Ideal S16x4x2048 .f32)

/-- The queries, the keys and the log-forget sums are real numbers. -/
structure RealArgs : Prop where
  heads : ∀ (b : Fin 16) (i : Fin 2048) (e : Fin 4352), e.val < 1024 → u (ix3 b i e) = (EReal.toReal (u (ix3 b i e)) : EReal)
  sums : ∀ (b : Fin 16) (h : Fin 4) (i : Fin 2048), s (ix3 b h i) = (EReal.toReal (s (ix3 b h i)) : EReal)

/-- Entry `d` of the query of token `i` at head `h`, as a real number. -/
def query (b : Fin 16) (h : Fin 4) (i : Fin 2048) (d : Fin 128) : ℝ :=
  EReal.toReal (u (ix3 b i ⟨h.val * 128 + d.val, by omega⟩))

/-- Entry `d` of the key of token `j` at head `h`, as a real number. -/
def key (b : Fin 16) (h : Fin 4) (j : Fin 2048) (d : Fin 128) : ℝ :=
  EReal.toReal (u (ix3 b j ⟨512 + (h.val * 128 + d.val), by omega⟩))

/-- The weight of token `j` for the query of token `i`. -/
def gain (b : Fin 16) (h : Fin 4) (i j : Fin 2048) : ℝ :=
  if j.val ≤ i.val then weight (∑ d, query u b h i d * key u b h j d) (EReal.toReal (s (ix3 b h j))) else 0

/-- The word of the scale denotes the scale. -/
theorem scale_word : Ideal.ofBits FTy.f32 1035273459#32 = ((scale : ℝ) : EReal) := by
  simp [Ideal.ofBits, Ideal.ieee]; rw [← EReal.coe_mul]; norm_num

/-- The smallest normaliser is at most 1. -/
theorem tiny_le_one : Ideal.ofBits FTy.f32 228737632#32 ≤ 1 := by
  have h : Ideal.ofBits FTy.f32 228737632#32 = (((10633824 : ℝ) * (1 / 2 ^ 123) : ℝ) : EReal) := by
    simp [Ideal.ofBits, Ideal.ieee]
  rw [h, ← EReal.coe_one, EReal.coe_le_coe_iff]; norm_num

/-- The masked score of key `j` for query `i`. -/
theorem score_at (H : RealArgs u s) (b : Fin 16) (h : Fin 4) (i j : Fin 2048) :
    val_main_v26 (F := Ideal) u s (ix4 b h i j) = if j.val ≤ i.val then
      (((∑ d, query u b h i d * key u b h j d) * scale + EReal.toReal (s (ix3 b h i)) - EReal.toReal (s (ix3 b h j)) : ℝ) : EReal) else ⊥ := by
  pointwise [val_main_v26, val_main_call0_v1, val_main_v25, val_main_v24, val_main_v23, val_main_v22, val_main_v21, val_main_v20, val_main_v19, val_main_v18, val_main_v17, val_main_v16, val_main_v15, val_main_v14, val_main_v13, val_main_v12, val_main_v11, val_main_v10, val_main_v6, val_main_v5, val_main_v4, val_main_v3, val_main_v2, val_main_v1, val_main_v0, val_main_cst, val_main_cst_0, val_main_call0_v2, val_main_call0_v0]
  refine (select_sle (by omega) (by omega) _ _).trans ?_
  refine if_congr Iff.rfl ?_ neg_infinity
  rw [EReal.coe_sub, EReal.coe_add, EReal.coe_mul, coe_sum, ← H.sums, ← H.sums, scale_word]
  congr 3
  refine Finset.sum_congr rfl fun d _ => ?_
  rw [EReal.coe_mul, query, key, ← H.heads _ _ _ (by dsimp only; omega), ← H.heads _ _ _ (by dsimp only; omega)]

/-- A maximum over the last axis, from minus infinity. -/
theorem reduce_max_at (X : FVec Ideal S16x4x2048x2048 .f32) (b : Fin 16) (h : Fin 4) (i : Fin 2048) :
    Host.reduce FloatOps.maximumf X (val_main_cst_1 (F := Ideal)) reducesTo_S16x4x2048x2048_S16x4x2048_d3 h_S_ (ix3 b h i)
      = Finset.univ.fold max ⊥ fun x => X (ix4 b h i x) := by
  pointwise [val_main_cst_1]
  rw [neg_infinity]

/-- The row's maximum. -/
theorem max_at (b : Fin 16) (h : Fin 4) (i : Fin 2048) :
    val_main_v27 (F := Ideal) u s (ix3 b h i) = Finset.univ.fold max ⊥ fun x => val_main_v26 (F := Ideal) u s (ix4 b h i x) := by
  unfold val_main_v27
  exact reduce_max_at (val_main_v26 (F := Ideal) u s) b h i

/-- The comparison of a real number's absolute value with infinity holds. -/
theorem abs_lt_top (R : ℝ) : (FloatOps.cmpf .olt (FloatOps.hostAbsf (R : Ideal .f32)) (FloatOps.ofBits .f32 0x7F800000#32 : Ideal .f32)) = 1#1 := by
  change BitVec.ofBool (decide (max (R : EReal) (-(R : EReal)) < Ideal.ofBits FTy.f32 2139095040#32)) = 1#1
  rw [pos_infinity, decide_eq_true (max_lt (EReal.coe_lt_top R) (by rw [← EReal.coe_neg]; exact EReal.coe_lt_top (-R)))]
  rfl

/-- The row's maximum, kept when it is a real number. -/
theorem kept_at (b : Fin 16) (h : Fin 4) (i : Fin 2048) (R : ℝ) (hR : val_main_v27 (F := Ideal) u s (ix3 b h i) = (R : EReal)) :
    val_main_v32 (F := Ideal) u s (ix4 b h i 0) = (R : EReal) := by
  have h28 : val_main_v28 (F := Ideal) u s (ix4 b h i 0) = (R : EReal) := by
    rw [val_main_v28_apply, ← hR]
    exact congrArg _ (funext fun a => match a with
      | ⟨0, _⟩ => rfl
      | ⟨1, _⟩ => rfl
      | ⟨2, _⟩ => rfl)
  rw [val_main_v32_apply, val_main_v31_apply, val_main_v29_apply, h28, val_main_v30_apply, val_main_cst_2_apply, abs_lt_top]
  rfl

/-- The exponential of a score less the row's maximum, 0 for a key after the query. -/
theorem exp_at (b : Fin 16) (h : Fin 4) (i j : Fin 2048) :
    val_main_v36 (F := Ideal) u s (ix4 b h i j) = if j.val ≤ i.val then
      Ideal.exp (val_main_v26 (F := Ideal) u s (ix4 b h i j) - val_main_v32 (F := Ideal) u s (ix4 b h i 0)) else 0 := by
  pointwise [val_main_v36, val_main_v35, val_main_v34, val_main_v33, val_main_call2_v1, val_main_v25, val_main_v24, val_main_v23, val_main_v22, val_main_v21, val_main_v20, val_main_v19, val_main_cst_4, val_main_call2_v2, val_main_call2_v0]
  refine (select_sle (by omega) (by omega) _ _).trans ?_
  exact if_congr Iff.rfl rfl (by simp [constant, Ideal.ofBits, Ideal.ieee])

/-- A score less the query's own log-forget sum. -/
theorem shift (x c y : ℝ) : x + c - y - c = x - y := by ring

/-- The reference's result at entry `e` of token `i`: the weighted mean of the values at the entry. -/
theorem result_at (H : RealArgs u s) (b : Fin 16) (i : Fin 2048) (e : Fin 512) :
    val_main_v46 (F := Ideal) u s (ix3 b i e)
      = (((∑ j, gain u s b ⟨e.val / 128, by omega⟩ i j)⁻¹ : ℝ) : EReal)
        * ∑ j, (gain u s b ⟨e.val / 128, by omega⟩ i j : EReal) * u (ix3 b j ⟨1024 + e.val, by omega⟩) := by
  have hrow := reference_row (fun j => val_main_v26 (F := Ideal) u s (ix4 b ⟨e.val / 128, by omega⟩ i j)) (fun j => j.val ≤ i.val)
    (fun j => (∑ d, query u b ⟨e.val / 128, by omega⟩ i d * key u b ⟨e.val / 128, by omega⟩ j d) * scale
      + EReal.toReal (s (ix3 b ⟨e.val / 128, by omega⟩ i)) - EReal.toReal (s (ix3 b ⟨e.val / 128, by omega⟩ j)))
    (EReal.toReal (s (ix3 b ⟨e.val / 128, by omega⟩ i))) _ (fun j => u (ix3 b j ⟨1024 + e.val, by omega⟩))
    (fun j => score_at u s H b _ i j) ⟨i, le_rfl⟩ tiny_le_one _ (max_at u s b ⟨e.val / 128, by omega⟩ i)
  obtain ⟨⟨R, hR⟩, hrow⟩ := hrow
  have hg : ∀ j, (if j.val ≤ i.val then Real.exp ((∑ d, query u b ⟨e.val / 128, by omega⟩ i d * key u b ⟨e.val / 128, by omega⟩ j d) * scale
      + EReal.toReal (s (ix3 b ⟨e.val / 128, by omega⟩ i)) - EReal.toReal (s (ix3 b ⟨e.val / 128, by omega⟩ j))
      - EReal.toReal (s (ix3 b ⟨e.val / 128, by omega⟩ i))) else 0) = gain u s b ⟨e.val / 128, by omega⟩ i j := by
    intro j
    exact if_congr Iff.rfl (congrArg Real.exp (shift _ _ _)) rfl
  simp only [hg] at hrow
  refine Eq.trans ?_ hrow
  pointwise [val_main_v46, val_main_v45, val_main_v44, val_main_v43, val_main_v42, val_main_v41, val_main_v40, val_main_v39, val_main_v38, val_main_v37, val_main_cst_5, val_main_cst_6, val_main_v9, val_main_v8, val_main_v7, val_main_v0]
  simp only [exp_at, kept_at u s b _ i R hR, hR]

/-- An extended real whose absolute value is below the word of infinity is a real number. -/
theorem real_of_abs_lt (x : EReal) (h : BitVec.ofBool (decide (max x (-x) < Ideal.ofBits FTy.f32 2139095040#32)) = 1#1) :
    x = (EReal.toReal x : EReal) := by
  rw [pos_infinity] at h
  have h' : max x (-x) < ⊤ := by
    by_contra hn
    rw [decide_eq_false hn] at h
    exact absurd h (by decide)
  refine (EReal.coe_toReal (lt_of_le_of_lt (le_max_left _ _) h').ne fun hb => ?_).symm
  rw [hb, EReal.neg_bot] at h'
  exact absurd (lt_of_le_of_lt (le_max_right _ _) h') (lt_irrefl _)

/-- The precondition says that the queries, the keys and the log-forget sums are real numbers. -/
theorem real_of_finite (H : Pre_finite.fn (F := Ideal) u s = fun _ => 1#1) : RealArgs u s := by
  have H' := congrFun H ix0
  dsimp only [Pre_finite.fn] at H'
  change IntOp.andi _ _ = 1#1 at H'
  rw [IntOp.andi_eq_one] at H'
  obtain ⟨h1, h2⟩ := H'
  refine ⟨fun b i e he => ?_, fun b h i => ?_⟩
  · have h := Host.reduce_andi_all _ _ _ _ _ h1 (ix3 b i (⟨e.val, he⟩ : Fin 1024))
    revert h
    pointwise
    exact fun h => real_of_abs_lt _ h
  · have h := Host.reduce_andi_all _ _ _ _ _ h2 (ix3 b h i)
    revert h
    pointwise
    exact fun h => real_of_abs_lt _ h

end Cert.ReferenceIdeal.Fox
-- ==== Proof.Fox.Rows.lean ====
/-
  One row of the attention over variable arrays: from what the tiles read, the steps of the body
  give the reference's entry.
-/
module

public import proofs.«01_k».proof.Proof.Fox.Steps
public import proofs.«01_k».proof.Proof.Fox.Reference

@[expose] public section

set_option maxRecDepth 16384

noncomputable section

open Idealize.ShloMosaic Idealize.ShloMosaic.TcCoe Idealize.SL.Sem

namespace Cert.KernelIdeal.Fox

open Cert.KernelIdeal Cert.KernelIdeal.Gen _root_.Fox
open Cert.ReferenceIdeal.Fox (RealArgs query key gain result_at)

/-- The three scratch arrays. -/
structure St where
  M : FVec Ideal S512x128 .f32
  L : FVec Ideal S512x128 .f32
  A : FVec Ideal S512x128 .f32

/-- The scratch arrays before the first chunk. -/
def St.start : St := ⟨k0_pay23 (F := Ideal), k0_pay24 (F := Ideal), k0_pay25 (F := Ideal)⟩

/-- The scratch arrays after a chunk of logits `a` and values `v`. -/
def St.next (S : St) (a : FVec Ideal S512x512 .f32) (v : FVec Ideal S1x512x128 .bf16) : St :=
  ⟨k0_pay35 (F := Ideal) a S.M, k0_pay33 (F := Ideal) a S.M S.L, k0_pay34 (F := Ideal) a v S.M S.A⟩

/-- The tile stored from the scratch arrays. -/
def St.out (S : St) : FVec Ideal S1x512x128 .bf16 := k0_pay8 (F := Ideal) S.A S.L

variable (u : FVec Ideal S16x2048x4352 .bf16) (s : FVec Ideal S16x4x2048 .f32) (b : Fin 16) (h : Fin 4) (i : Fin 2048)

/-- The sum of the weights of chunk `j`. -/
def part (j : Fin 4) : ℝ := ∑ x : Fin 512, gain u s b h i ⟨j.val * 512 + x.val, by omega⟩

/-- The weighted sum of the values of chunk `j` in lane `d`. -/
def partV (j : Fin 4) (d : Fin 128) : EReal :=
  ∑ x : Fin 512, (gain u s b h i ⟨j.val * 512 + x.val, by omega⟩ : EReal)
    * u (ix3 b ⟨j.val * 512 + x.val, by omega⟩ ⟨1024 + (h.val * 128 + d.val), by omega⟩)

/-- What a chunk of keys, values and log-forget sums holds. -/
structure Reads (j : Fin 4) (kb vb : FVec Ideal S1x512x128 .bf16) (cb : FVec Ideal S1x1x512 .f32) : Prop where
  k : ∀ (x : Fin 512) (d : Fin 128), kb (ix3 0 x d) = u (ix3 b ⟨j.val * 512 + x.val, by omega⟩ ⟨512 + (h.val * 128 + d.val), by omega⟩)
  v : ∀ (x : Fin 512) (d : Fin 128), vb (ix3 0 x d) = u (ix3 b ⟨j.val * 512 + x.val, by omega⟩ ⟨1024 + (h.val * 128 + d.val), by omega⟩)
  c : ∀ x : Fin 512, cb (ix3 0 0 x) = s (ix3 b h ⟨j.val * 512 + x.val, by omega⟩)

variable {u s b h i} {j : Fin 4} {kb vb : FVec Ideal S1x512x128 .bf16} {cb : FVec Ideal S1x1x512 .f32}
  {q : FVec Ideal S512x128 .bf16} {r : Fin 512}

/-- The query's entries are real numbers. -/
theorem query_real (H : RealArgs u s) (hq : ∀ d : Fin 128, q (ix2 r d) = u (ix3 b i ⟨h.val * 128 + d.val, by omega⟩)) (d : Fin 128) :
    q (ix2 r d) = (query u b h i d : EReal) := by
  rw [hq, query]; exact H.heads _ _ _ (by dsimp only; omega)

/-- The keys' entries are real numbers. -/
theorem key_real (H : RealArgs u s) (R : Reads u s b h j kb vb cb) (x : Fin 512) (d : Fin 128) :
    kb (ix3 0 x d) = (key u b h ⟨j.val * 512 + x.val, by omega⟩ d : EReal) := by
  rw [R.k, key]; exact H.heads _ _ _ (by dsimp only; omega)

/-- The log-forget sums are real numbers. -/
theorem sum_real (H : RealArgs u s) (R : Reads u s b h j kb vb cb) (x : Fin 512) :
    cb (ix3 0 0 x) = (EReal.toReal (s (ix3 b h ⟨j.val * 512 + x.val, by omega⟩)) : EReal) := by
  rw [R.c]; exact H.sums _ _ _

/-- A chunk before the query's own: its logits stand for the reference's weights. -/
theorem full (H : RealArgs u s) (hq : ∀ d : Fin 128, q (ix2 r d) = u (ix3 b i ⟨h.val * 128 + d.val, by omega⟩))
    (R : Reads u s b h j kb vb cb) (hi : j.val * 512 + 512 ≤ i.val) :
    Chunk (fun x => k0_pay26 (F := Ideal) q kb cb (ix2 r x)) fun x => gain u s b h i ⟨j.val * 512 + x.val, by omega⟩ := by
  have hg : (fun x : Fin 512 => gain u s b h i ⟨j.val * 512 + x.val, by omega⟩)
      = fun x => weight (∑ d, query u b h i d * key u b h ⟨j.val * 512 + x.val, by omega⟩ d)
        (EReal.toReal (s (ix3 b h ⟨j.val * 512 + x.val, by omega⟩))) :=
    funext fun x => if_pos (show j.val * 512 + x.val ≤ i.val by omega)
  rw [hg]
  exact chunk_full q kb cb r (query u b h i) (fun x => key u b h ⟨j.val * 512 + x.val, by omega⟩) _
    (query_real H hq) (key_real H R) (sum_real H R)

/-- The query's own chunk: its masked logits stand for the reference's weights. -/
theorem diag (H : RealArgs u s) (hq : ∀ d : Fin 128, q (ix2 r d) = u (ix3 b i ⟨h.val * 128 + d.val, by omega⟩))
    (R : Reads u s b h j kb vb cb) (hi : i.val = j.val * 512 + r.val) :
    Chunk (fun x => k0_pay20 (F := Ideal) q kb cb (ix2 r x)) fun x => gain u s b h i ⟨j.val * 512 + x.val, by omega⟩ := by
  have hg : (fun x : Fin 512 => gain u s b h i ⟨j.val * 512 + x.val, by omega⟩)
      = fun x : Fin 512 => if x.val ≤ r.val then weight (∑ d, query u b h i d * key u b h ⟨j.val * 512 + x.val, by omega⟩ d)
        (EReal.toReal (s (ix3 b h ⟨j.val * 512 + x.val, by omega⟩))) else 0 :=
    funext fun x => if_congr (by dsimp only; omega) rfl rfl
  rw [hg]
  exact chunk_diag q kb cb r (query u b h i) (fun x => key u b h ⟨j.val * 512 + x.val, by omega⟩) _
    (query_real H hq) (key_real H R) (sum_real H R)

/-- The row's state after one more chunk, by the chunk's sums. -/
theorem St.step {S : St} {G : ℝ} {W : Fin 128 → EReal} (hI : RowState S.M S.L S.A r G W) (R : Reads u s b h j kb vb cb)
    {a : FVec Ideal S512x512 .f32} (hc : Chunk (fun x => a (ix2 r x)) fun x => gain u s b h i ⟨j.val * 512 + x.val, by omega⟩) :
    RowState (S.next a vb).M (S.next a vb).L (S.next a vb).A r (G + part u s b h i j) fun d => W d + partV u s b h i j d := by
  have hn := hI.step a vb _ hc
  have hW : (fun d => W d + ∑ x : Fin 512, (gain u s b h i ⟨j.val * 512 + x.val, by omega⟩ : EReal) * vb (ix3 0 x d))
      = fun d => W d + partV u s b h i j d :=
    funext fun d => congrArg (W d + ·) (Finset.sum_congr rfl fun x _ => by rw [R.v])
  rw [hW] at hn
  exact hn

/-- A state's weight is not negative. -/
theorem St.nonneg {S : St} {G : ℝ} {W : Fin 128 → EReal} (hI : RowState S.M S.L S.A r G W) : 0 ≤ G := by
  obtain ⟨μ, l, _, _, hA⟩ := hI
  exact (hA 0).1

/-- The weight of the query's own chunk is positive. -/
theorem part_pos {a : FVec Ideal S512x512 .f32} (hc : Chunk (fun x => a (ix2 r x)) fun x => gain u s b h i ⟨j.val * 512 + x.val, by omega⟩) :
    0 < part u s b h i j := hc.sum_pos

/-- A chunk after the query has no weight. -/
theorem part_after (j : Fin 4) (hi : i.val < j.val * 512) : part u s b h i j = 0 ∧ ∀ d, partV u s b h i j d = 0 := by
  have hg : ∀ x : Fin 512, gain u s b h i ⟨j.val * 512 + x.val, by omega⟩ = 0 :=
    fun x => if_neg (show ¬j.val * 512 + x.val ≤ i.val by omega)
  refine ⟨Finset.sum_eq_zero fun x _ => hg x, fun d => Finset.sum_eq_zero fun x _ => ?_⟩
  rw [hg x, EReal.coe_zero, zero_mul]

/-- The reference's entry by chunks. -/
theorem result_parts (H : RealArgs u s) (e : Fin 512) (d : Fin 128) (he : e.val = h.val * 128 + d.val) :
    Cert.ReferenceIdeal.Read.val_main_v46 (F := Ideal) u s (ix3 b i e)
      = (((part u s b h i 0 + part u s b h i 1 + part u s b h i 2 + part u s b h i 3)⁻¹ : ℝ) : EReal)
        * (partV u s b h i 0 d + partV u s b h i 1 d + partV u s b h i 2 d + partV u s b h i 3 d) := by
  have hh : (⟨e.val / 128, by omega⟩ : Fin 4) = h := Fin.ext (by dsimp only; omega)
  have hG : ∑ k, gain u s b h i k = part u s b h i 0 + part u s b h i 1 + part u s b h i 2 + part u s b h i 3 := by
    rw [Fin.sum_univ_tiles 4 512 rfl, Fin.sum_univ_four]; rfl
  have hV : ∑ k, (gain u s b h i k : EReal) * u (ix3 b k ⟨1024 + e.val, by omega⟩)
      = partV u s b h i 0 d + partV u s b h i 1 d + partV u s b h i 2 d + partV u s b h i 3 d := by
    have he' : (⟨1024 + e.val, by omega⟩ : Fin 4352) = ⟨1024 + (h.val * 128 + d.val), by omega⟩ := Fin.ext (by dsimp only; omega)
    rw [he', Fin.sum_univ_tiles 4 512 rfl, Fin.sum_univ_four]; rfl
  rw [result_at u s H b i e, hh, hG, hV]

end Cert.KernelIdeal.Fox
-- ==== Proof.Fox.Value.lean ====
/-
  The kernel's array after the run is the reference's attention: at each grid point the body runs
  the steps of Fox/Steps.lean over the chunks of keys up to the diagonal, and what it stores at an
  entry is the weighted mean that Fox/Reference.lean reads off the reference.
-/
module

public import proofs.«01_k».proof.Proof.Fox.Rows
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen _root_.Fox
open Cert.ReferenceIdeal.Fox (RealArgs)

variable (m : (ℓ : Loc nD τ sig) → Buf (Elt Ideal) ℓ)

/-- The windows' block indices at grid point `t`: batch `t / 16`, head `t / 4 % 4`, query tile `t % 4`. -/
theorem index_maps : ∀ t : Fin cfg0.N, win0_0.index t = ![t.val / 16, t.val % 4, t.val / 4 % 4] ∧ win0_1.index t = ![t.val / 16, 0, 4 + t.val / 4 % 4]
    ∧ win0_2.index t = ![t.val / 16, 0, 8 + t.val / 4 % 4] ∧ win0_3.index t = ![t.val / 16, 0, 0] ∧ win0_4.index t = ![t.val / 16, t.val % 4, t.val / 4 % 4] :=
  (by decide +kernel : ∀ t : Fin grid0.N, _)

/-- The query tile, the chunk of keys and of values at offset `o`, and the chunk of log-forget sums at offset `o`, at a grid point. -/
abbrev qt (c : Dev nD) (t : Fin cfg0.N) : FVec Ideal S512x128 .bf16 := k0_pay1 (F := Ideal) (iblk m c 0 t)
abbrev kc (c : Dev nD) (t : Fin cfg0.N) (o : Fin 3 → ℕ) (p : ∀ a, o a + S1x512x128.size a ≤ S1x2048x128.size a) : FVec Ideal S1x512x128 .bf16 :=
  View.ld (iblk m c 1 t) (Rect.unit (s := S1x2048x128) o S1x512x128.size p)
abbrev vc (c : Dev nD) (t : Fin cfg0.N) (o : Fin 3 → ℕ) (p : ∀ a, o a + S1x512x128.size a ≤ S1x2048x128.size a) : FVec Ideal S1x512x128 .bf16 :=
  View.ld (iblk m c 2 t) (Rect.unit (s := S1x2048x128) o S1x512x128.size p)
abbrev cc (c : Dev nD) (t : Fin cfg0.N) (o : Fin 3 → ℕ) (p : ∀ a, o a + S1x1x512.size a ≤ S1x4x2048.size a) : FVec Ideal S1x1x512 .f32 :=
  View.ld (iblk m c 3 t) (Rect.unit (s := S1x4x2048) o S1x1x512.size p)

/-- The arguments: the concatenated projections and the cumulative log-forget sums. -/
abbrev U (c : Dev nD) : FVec Ideal S16x2048x4352 .bf16 := m ((c : Thread nD τ).loc main_arg0)
abbrev Z (c : Dev nD) : FVec Ideal S16x4x2048 .f32 := m ((c : Thread nD τ).loc main_arg1)

/-- The batch and the head of a grid point. -/
abbrev batch (t : Fin cfg0.N) : Fin 16 := ⟨t.val / 16, by have h : t.val < 256 := t.isLt; omega⟩
abbrev head (t : Fin cfg0.N) : Fin 4 := ⟨t.val / 4 % 4, by omega⟩

/-- An entry of the query tile. -/
theorem qread (c : Dev nD) (t : Fin cfg0.N) (r : Fin 512) (d : Fin 128) :
    qt m c t (ix2 r d) = U m c (ix3 (batch t) ⟨512 * (t.val % 4) + r.val, by omega⟩ ⟨(head t).val * 128 + d.val, by omega⟩) := by
  refine (q_at _ r d).trans ?_
  blk_point [iblk, V, index_maps t]

/-- An entry of a chunk of keys. -/
theorem kread (c : Dev nD) (t : Fin cfg0.N) (j : ℕ) (hj : j < 4) (o : Fin 3 → ℕ) (ho : o = ![0, 512 * j, 0]) (p) (x : Fin 512) (d : Fin 128) :
    kc m c t o p (ix3 0 x d) = U m c (ix3 (batch t) ⟨512 * j + x.val, by omega⟩ ⟨512 + ((head t).val * 128 + d.val), by omega⟩) := by
  subst ho
  pointwise [kc]
  blk_point [iblk, V, index_maps t]

/-- An entry of a chunk of values. -/
theorem vread (c : Dev nD) (t : Fin cfg0.N) (j : ℕ) (hj : j < 4) (o : Fin 3 → ℕ) (ho : o = ![0, 512 * j, 0]) (p) (x : Fin 512) (d : Fin 128) :
    vc m c t o p (ix3 0 x d) = U m c (ix3 (batch t) ⟨512 * j + x.val, by omega⟩ ⟨1024 + ((head t).val * 128 + d.val), by omega⟩) := by
  subst ho
  pointwise [vc]
  blk_point [iblk, V, index_maps t]

/-- An entry of a chunk of log-forget sums. -/
theorem cread (c : Dev nD) (t : Fin cfg0.N) (j : ℕ) (hj : j < 4) (o : Fin 3 → ℕ) (ho : o = ![0, t.val / 4 % 4, 512 * j]) (p) (x : Fin 512) :
    cc m c t o p (ix3 0 0 x) = Z m c (ix3 (batch t) (head t) ⟨512 * j + x.val, by omega⟩) := by
  subst ho
  pointwise [cc]
  blk_point [iblk, V, index_maps t]

/-- The offset of the log-forget sums of chunk `j`, at the head of the grid point. -/
theorem off1 : ∀ t : Fin cfg0.N, k0_off1 (grid0.coords t) = ![0, t.val / 4 % 4, 512 * 0] := (by decide +kernel : ∀ t : Fin grid0.N, _)
theorem off2 : ∀ t : Fin cfg0.N, k0_off2 (grid0.coords t) = ![0, t.val / 4 % 4, 512 * 0] := (by decide +kernel : ∀ t : Fin grid0.N, _)
theorem off3 : ∀ t : Fin cfg0.N, k0_off3 (grid0.coords t) = ![0, t.val / 4 % 4, 512 * 1] := (by decide +kernel : ∀ t : Fin grid0.N, _)
theorem off4 : ∀ t : Fin cfg0.N, k0_off4 (grid0.coords t) = ![0, t.val / 4 % 4, 512 * 0] := (by decide +kernel : ∀ t : Fin grid0.N, _)
theorem off5 : ∀ t : Fin cfg0.N, k0_off5 (grid0.coords t) = ![0, t.val / 4 % 4, 512 * 1] := (by decide +kernel : ∀ t : Fin grid0.N, _)
theorem off6 : ∀ t : Fin cfg0.N, k0_off6 (grid0.coords t) = ![0, t.val / 4 % 4, 512 * 2] := (by decide +kernel : ∀ t : Fin grid0.N, _)
theorem off7 : ∀ t : Fin cfg0.N, k0_off7 (grid0.coords t) = ![0, t.val / 4 % 4, 512 * 0] := (by decide +kernel : ∀ t : Fin grid0.N, _)
theorem off8 : ∀ t : Fin cfg0.N, k0_off8 (grid0.coords t) = ![0, t.val / 4 % 4, 512 * 1] := (by decide +kernel : ∀ t : Fin grid0.N, _)
theorem off9 : ∀ t : Fin cfg0.N, k0_off9 (grid0.coords t) = ![0, t.val / 4 % 4, 512 * 2] := (by decide +kernel : ∀ t : Fin grid0.N, _)
theorem off10 : ∀ t : Fin cfg0.N, k0_off10 (grid0.coords t) = ![0, t.val / 4 % 4, 512 * 3] := (by decide +kernel : ∀ t : Fin grid0.N, _)

/-- An offset of the log-forget sums is in bounds. -/
theorem inb_of {t : Fin cfg0.N} {o : Fin 3 → ℕ} {j : ℕ} (ho : o = ![0, t.val / 4 % 4, 512 * j]) (hj : j < 4) :
    ∀ a, o a + S1x1x512.size a ≤ S1x4x2048.size a := by
  subst ho
  intro a
  match a with
  | ⟨0, _⟩ => exact (by decide : 0 + 1 ≤ 1)
  | ⟨1, _⟩ => exact (by omega : t.val / 4 % 4 + 1 ≤ 4)
  | ⟨2, _⟩ => exact (by omega : 512 * j + 512 ≤ 2048)

/-- The tile stored at a first query tile: one chunk. -/
theorem caseA (c : Dev nD) (t : Fin cfg0.N) (h0 : t.val % 4 = 0) (h1 : ¬t.val % 4 = 1) (h2 : ¬t.val % 4 = 2) (h3 : ¬t.val % 4 = 3) (y) :
    (outsAt0 m c t.val t.isLt) y = (St.start.next
      (k0_pay20 (F := Ideal) (qt m c t) (kc m c t ![0, 0, 0] inb_S1x2048x128_S1x512x128_0_0_0) (cc m c t (k0_off1 (grid0.coords t)) (inb_of (off1 t) (by decide))))
      (vc m c t ![0, 0, 0] inb_S1x2048x128_S1x512x128_0_0_0)).out y := by
  rw [outsAt0_A m c t h0 h1 h2 h3]
  frame_open
  simp (disch := decide) only [↓ View.readCov_skip, ↓ View.readCov_cons_toLoadRect, ↓ View.readCov_fill]
  frame_out
  rfl

/-- The tile stored at a second query tile: two chunks. -/
theorem caseB (c : Dev nD) (t : Fin cfg0.N) (h0 : ¬t.val % 4 = 0) (h1 : t.val % 4 = 1) (h2 : ¬t.val % 4 = 2) (h3 : ¬t.val % 4 = 3) (y) :
    (outsAt0 m c t.val t.isLt) y = ((St.start.next
      (k0_pay26 (F := Ideal) (qt m c t) (kc m c t ![0, 0, 0] inb_S1x2048x128_S1x512x128_0_0_0) (cc m c t (k0_off2 (grid0.coords t)) (inb_of (off2 t) (by decide))))
      (vc m c t ![0, 0, 0] inb_S1x2048x128_S1x512x128_0_0_0)).next
      (k0_pay20 (F := Ideal) (qt m c t) (kc m c t ![0, 512, 0] inb_S1x2048x128_S1x512x128_0_512_0) (cc m c t (k0_off3 (grid0.coords t)) (inb_of (off3 t) (by decide))))
      (vc m c t ![0, 512, 0] inb_S1x2048x128_S1x512x128_0_512_0)).out y := by
  rw [outsAt0_B m c t h0 h1 h2 h3]
  frame_open
  simp (disch := decide) only [↓ View.readCov_skip, ↓ View.readCov_cons_toLoadRect, ↓ View.readCov_fill]
  frame_out
  rfl

/-- The tile stored at a third query tile: three chunks. -/
theorem caseC (c : Dev nD) (t : Fin cfg0.N) (h0 : ¬t.val % 4 = 0) (h1 : ¬t.val % 4 = 1) (h2 : t.val % 4 = 2) (h3 : ¬t.val % 4 = 3) (y) :
    (outsAt0 m c t.val t.isLt) y = (((St.start.next
      (k0_pay26 (F := Ideal) (qt m c t) (kc m c t ![0, 0, 0] inb_S1x2048x128_S1x512x128_0_0_0) (cc m c t (k0_off4 (grid0.coords t)) (inb_of (off4 t) (by decide))))
      (vc m c t ![0, 0, 0] inb_S1x2048x128_S1x512x128_0_0_0)).next
      (k0_pay26 (F := Ideal) (qt m c t) (kc m c t ![0, 512, 0] inb_S1x2048x128_S1x512x128_0_512_0) (cc m c t (k0_off5 (grid0.coords t)) (inb_of (off5 t) (by decide))))
      (vc m c t ![0, 512, 0] inb_S1x2048x128_S1x512x128_0_512_0)).next
      (k0_pay20 (F := Ideal) (qt m c t) (kc m c t ![0, 1024, 0] inb_S1x2048x128_S1x512x128_0_1024_0) (cc m c t (k0_off6 (grid0.coords t)) (inb_of (off6 t) (by decide))))
      (vc m c t ![0, 1024, 0] inb_S1x2048x128_S1x512x128_0_1024_0)).out y := by
  rw [outsAt0_C m c t h0 h1 h2 h3]
  frame_open
  simp (disch := decide) only [↓ View.readCov_skip, ↓ View.readCov_cons_toLoadRect, ↓ View.readCov_fill]
  frame_out
  rfl

/-- The tile stored at a fourth query tile: four chunks. -/
theorem caseD (c : Dev nD) (t : Fin cfg0.N) (h0 : ¬t.val % 4 = 0) (h1 : ¬t.val % 4 = 1) (h2 : ¬t.val % 4 = 2) (h3 : t.val % 4 = 3) (y) :
    (outsAt0 m c t.val t.isLt) y = ((((St.start.next
      (k0_pay26 (F := Ideal) (qt m c t) (kc m c t ![0, 0, 0] inb_S1x2048x128_S1x512x128_0_0_0) (cc m c t (k0_off7 (grid0.coords t)) (inb_of (off7 t) (by decide))))
      (vc m c t ![0, 0, 0] inb_S1x2048x128_S1x512x128_0_0_0)).next
      (k0_pay26 (F := Ideal) (qt m c t) (kc m c t ![0, 512, 0] inb_S1x2048x128_S1x512x128_0_512_0) (cc m c t (k0_off8 (grid0.coords t)) (inb_of (off8 t) (by decide))))
      (vc m c t ![0, 512, 0] inb_S1x2048x128_S1x512x128_0_512_0)).next
      (k0_pay26 (F := Ideal) (qt m c t) (kc m c t ![0, 1024, 0] inb_S1x2048x128_S1x512x128_0_1024_0) (cc m c t (k0_off9 (grid0.coords t)) (inb_of (off9 t) (by decide))))
      (vc m c t ![0, 1024, 0] inb_S1x2048x128_S1x512x128_0_1024_0)).next
      (k0_pay20 (F := Ideal) (qt m c t) (kc m c t ![0, 1536, 0] inb_S1x2048x128_S1x512x128_0_1536_0) (cc m c t (k0_off10 (grid0.coords t)) (inb_of (off10 t) (by decide))))
      (vc m c t ![0, 1536, 0] inb_S1x2048x128_S1x512x128_0_1536_0)).out y := by
  rw [outsAt0_D m c t h0 h1 h2 h3]
  frame_open
  simp (disch := decide) only [↓ View.readCov_skip, ↓ View.readCov_cons_toLoadRect, ↓ View.readCov_fill]
  frame_out
  rfl

/-- The reads of a chunk at a grid point. -/
theorem reads (c : Dev nD) (t : Fin cfg0.N) (j : Fin 4) {o o' : Fin 3 → ℕ} (ho : o = ![0, 512 * j.val, 0]) (ho' : o' = ![0, t.val / 4 % 4, 512 * j.val]) (p p' p'') :
    Reads (U m c) (Z m c) (batch t) (head t) j (kc m c t o p) (vc m c t o p') (cc m c t o' p'') where
  k x d := (kread m c t j j.isLt o ho p x d).trans (by simp only [Nat.mul_comm 512])
  v x d := (vread m c t j j.isLt o ho p' x d).trans (by simp only [Nat.mul_comm 512])
  c x := (cread m c t j j.isLt o' ho' p'' x).trans (by simp only [Nat.mul_comm 512])

/-- What a grid point stores at row `r`, lane `d` of its tile is the reference's entry. -/
theorem point (c : Dev nD) (H : RealArgs (U m c) (Z m c)) (t : Fin cfg0.N) (r : Fin 512) (d : Fin 128) :
    (outsAt0 m c t.val t.isLt) (ix3 0 r d)
      = Cert.ReferenceIdeal.Read.val_main_v46 (F := Ideal) (U m c) (Z m c)
          (ix3 (batch t) ⟨512 * (t.val % 4) + r.val, by omega⟩ ⟨(head t).val * 128 + d.val, by omega⟩) := by
  have hq := fun d => qread m c t r d
  rw [result_parts (h := head t) H _ d rfl]
  have hlt : t.val % 4 < 4 := Nat.mod_lt _ (by decide)
  by_cases h0 : t.val % 4 = 0
  · rw [caseA m c t h0 (by omega) (by omega) (by omega)]
    have R0 := reads m c t 0 (o := ![0, 0, 0]) rfl (off1 t) inb_S1x2048x128_S1x512x128_0_0_0 inb_S1x2048x128_S1x512x128_0_0_0 (inb_of (off1 t) (by decide))
    have c0 := diag H hq R0 (by dsimp only; omega)
    have S1 := St.step (S := St.start) (RowState.start r) R0 c0
    have z1 := part_after (u := U m c) (s := Z m c) (b := batch t) (h := head t) (i := ⟨512 * (t.val % 4) + r.val, by omega⟩) 1 (by dsimp only; omega)
    have z2 := part_after (u := U m c) (s := Z m c) (b := batch t) (h := head t) (i := ⟨512 * (t.val % 4) + r.val, by omega⟩) 2 (by dsimp only; omega)
    have z3 := part_after (u := U m c) (s := Z m c) (b := batch t) (h := head t) (i := ⟨512 * (t.val % 4) + r.val, by omega⟩) 3 (by dsimp only; omega)
    rw [z1.1, z2.1, z3.1, z1.2, z2.2, z3.2]
    simp only [add_zero]
    refine (S1.out (by rw [zero_add]; exact part_pos c0) d).trans ?_
    simp only [zero_add]
  by_cases h1 : t.val % 4 = 1
  · rw [caseB m c t h0 h1 (by omega) (by omega)]
    have R0 := reads m c t 0 (o := ![0, 0, 0]) rfl (off2 t) inb_S1x2048x128_S1x512x128_0_0_0 inb_S1x2048x128_S1x512x128_0_0_0 (inb_of (off2 t) (by decide))
    have R1 := reads m c t 1 (o := ![0, 512, 0]) rfl (off3 t) inb_S1x2048x128_S1x512x128_0_512_0 inb_S1x2048x128_S1x512x128_0_512_0 (inb_of (off3 t) (by decide))
    have c0 := full H hq R0 (by dsimp only; omega)
    have c1 := diag H hq R1 (by dsimp only; omega)
    have S1 := St.step (S := St.start) (RowState.start r) R0 c0
    have S2 := St.step S1 R1 c1
    have z2 := part_after (u := U m c) (s := Z m c) (b := batch t) (h := head t) (i := ⟨512 * (t.val % 4) + r.val, by omega⟩) 2 (by dsimp only; omega)
    have z3 := part_after (u := U m c) (s := Z m c) (b := batch t) (h := head t) (i := ⟨512 * (t.val % 4) + r.val, by omega⟩) 3 (by dsimp only; omega)
    rw [z2.1, z3.1, z2.2, z3.2]
    simp only [add_zero]
    refine (S2.out (add_pos_of_nonneg_of_pos (St.nonneg S1) (part_pos c1)) d).trans ?_
    simp only [zero_add]
  by_cases h2 : t.val % 4 = 2
  · rw [caseC m c t h0 h1 h2 (by omega)]
    have R0 := reads m c t 0 (o := ![0, 0, 0]) rfl (off4 t) inb_S1x2048x128_S1x512x128_0_0_0 inb_S1x2048x128_S1x512x128_0_0_0 (inb_of (off4 t) (by decide))
    have R1 := reads m c t 1 (o := ![0, 512, 0]) rfl (off5 t) inb_S1x2048x128_S1x512x128_0_512_0 inb_S1x2048x128_S1x512x128_0_512_0 (inb_of (off5 t) (by decide))
    have R2 := reads m c t 2 (o := ![0, 1024, 0]) rfl (off6 t) inb_S1x2048x128_S1x512x128_0_1024_0 inb_S1x2048x128_S1x512x128_0_1024_0 (inb_of (off6 t) (by decide))
    have c0 := full H hq R0 (by dsimp only; omega)
    have c1 := full H hq R1 (by dsimp only; omega)
    have c2 := diag H hq R2 (by dsimp only; omega)
    have S1 := St.step (S := St.start) (RowState.start r) R0 c0
    have S2 := St.step S1 R1 c1
    have S3 := St.step S2 R2 c2
    have z3 := part_after (u := U m c) (s := Z m c) (b := batch t) (h := head t) (i := ⟨512 * (t.val % 4) + r.val, by omega⟩) 3 (by dsimp only; omega)
    rw [z3.1, z3.2]
    simp only [add_zero]
    refine (S3.out (add_pos_of_nonneg_of_pos (St.nonneg S2) (part_pos c2)) d).trans ?_
    simp only [zero_add]
  · rw [caseD m c t h0 h1 h2 (by omega)]
    have R0 := reads m c t 0 (o := ![0, 0, 0]) rfl (off7 t) inb_S1x2048x128_S1x512x128_0_0_0 inb_S1x2048x128_S1x512x128_0_0_0 (inb_of (off7 t) (by decide))
    have R1 := reads m c t 1 (o := ![0, 512, 0]) rfl (off8 t) inb_S1x2048x128_S1x512x128_0_512_0 inb_S1x2048x128_S1x512x128_0_512_0 (inb_of (off8 t) (by decide))
    have R2 := reads m c t 2 (o := ![0, 1024, 0]) rfl (off9 t) inb_S1x2048x128_S1x512x128_0_1024_0 inb_S1x2048x128_S1x512x128_0_1024_0 (inb_of (off9 t) (by decide))
    have R3 := reads m c t 3 (o := ![0, 1536, 0]) rfl (off10 t) inb_S1x2048x128_S1x512x128_0_1536_0 inb_S1x2048x128_S1x512x128_0_1536_0 (inb_of (off10 t) (by decide))
    have c0 := full H hq R0 (by dsimp only; omega)
    have c1 := full H hq R1 (by dsimp only; omega)
    have c2 := full H hq R2 (by dsimp only; omega)
    have c3 := diag H hq R3 (by dsimp only; omega)
    have S1 := St.step (S := St.start) (RowState.start r) R0 c0
    have S2 := St.step S1 R1 c1
    have S3 := St.step S2 R2 c2
    have S4 := St.step S3 R3 c3
    refine (S4.out (add_pos_of_nonneg_of_pos (St.nonneg S3) (part_pos c3)) d).trans ?_
    simp only [zero_add]

/-- The kernel's array after the run is the reference's result over the same arguments. -/
theorem final (c : Dev nD) (H : RealArgs (U m c) (Z m c)) :
    (dats m 0 c).arrAt 4 cfg0.N = Cert.ReferenceIdeal.Read.val_main_v46 (F := Ideal) (U m c) (Z m c) := by
  refine (dats m 0 c).arrAt_eq_of_covers 4 _ (by decide +kernel) fun t hf y => ?_
  blk_simp
  rw [after0_4]
  obtain ⟨a, r, d, rfl⟩ : ∃ (a : Fin 1) (r : Fin 512) (d : Fin 128), y = ix3 a r d := ⟨y 0, y 1, y 2, eq_ix3 y⟩
  obtain rfl : a = 0 := Subsingleton.elim _ _
  refine (point m c H t r d).trans ?_
  generalize Cert.ReferenceIdeal.Read.val_main_v46 (F := Ideal) (U m c) (Z m c) = X
  blk_point [index_maps t]

end Cert.KernelIdeal.Fox
-- ==== Proof.MergeValue.lean ====
/-
  The gated merge: what the kernel stores is the reference's sum over the four branches of the gate's
  logistic of `h` times the gate's weights times the branch's output times the branch's weights.
-/
module

public import proofs.«01_k».proof.Proof.Gen.MergeIdeal.Frame
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Merge

open Cert.MergeIdeal Cert.MergeIdeal.Gen

variable (m : (ℓ : Loc nD τ sig) → Buf (Elt Ideal) ℓ)

/-- The reference's result over the seven argument arrays. -/
abbrev merged (H : FVec Ideal S32768x2048 .bf16) (O0 O1 O2 O3 : FVec Ideal S32768x512 .bf16)
    (WG : FVec Ideal S4x2048x2048 .f32) (WB : FVec Ideal S4x512x2048 .f32) : FVec Ideal S32768x2048 .bf16 :=
  Cert.MergeRefIdeal.Read.val_main_v60 (F := Ideal) H O0 O1 O2 O3 WG WB

/-- One branch's term at an entry: the logistic of the gate's product times the branch's product. -/
def term {K L : ℕ} (h g : Fin K → EReal) (o w : Fin L → EReal) : EReal :=
  Ideal.logistic (∑ k, h k * g k) * ∑ k, o k * w k

/-- An entry of the reference's result. -/
theorem merged_at (H : FVec Ideal S32768x2048 .bf16) (O0 O1 O2 O3 : FVec Ideal S32768x512 .bf16)
    (WG : FVec Ideal S4x2048x2048 .f32) (WB : FVec Ideal S4x512x2048 .f32) (i : Fin 32768) (e : Fin 2048) :
    merged H O0 O1 O2 O3 WG WB (ix2 i e)
      = term (fun k : Fin 2048 => H (ix2 i k)) (fun k => WG (ix3 0 k e)) (fun k : Fin 512 => O0 (ix2 i k)) (fun k => WB (ix3 0 k e))
        + term (fun k : Fin 2048 => H (ix2 i k)) (fun k => WG (ix3 1 k e)) (fun k : Fin 512 => O1 (ix2 i k)) (fun k => WB (ix3 1 k e))
        + term (fun k : Fin 2048 => H (ix2 i k)) (fun k => WG (ix3 2 k e)) (fun k : Fin 512 => O2 (ix2 i k)) (fun k => WB (ix3 2 k e))
        + term (fun k : Fin 2048 => H (ix2 i k)) (fun k => WG (ix3 3 k e)) (fun k : Fin 512 => O3 (ix2 i k)) (fun k => WB (ix3 3 k e)) := by
  pointwise [merged, Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23, Cert.MergeRefIdeal.Read.val_main_v24, Cert.MergeRefIdeal.Read.val_main_v25, Cert.MergeRefIdeal.Read.val_main_v26, Cert.MergeRefIdeal.Read.val_main_v27, Cert.MergeRefIdeal.Read.val_main_v28, Cert.MergeRefIdeal.Read.val_main_v29, Cert.MergeRefIdeal.Read.val_main_v30, Cert.MergeRefIdeal.Read.val_main_v31, Cert.MergeRefIdeal.Read.val_main_v32, Cert.MergeRefIdeal.Read.val_main_v33, Cert.MergeRefIdeal.Read.val_main_v34, Cert.MergeRefIdeal.Read.val_main_v35, Cert.MergeRefIdeal.Read.val_main_v36, Cert.MergeRefIdeal.Read.val_main_v37, Cert.MergeRefIdeal.Read.val_main_v38, Cert.MergeRefIdeal.Read.val_main_v39, Cert.MergeRefIdeal.Read.val_main_v40, Cert.MergeRefIdeal.Read.val_main_v41, Cert.MergeRefIdeal.Read.val_main_v42, Cert.MergeRefIdeal.Read.val_main_v43, Cert.MergeRefIdeal.Read.val_main_v44, Cert.MergeRefIdeal.Read.val_main_v45, Cert.MergeRefIdeal.Read.val_main_v46, Cert.MergeRefIdeal.Read.val_main_v47, Cert.MergeRefIdeal.Read.val_main_v48, Cert.MergeRefIdeal.Read.val_main_v49, Cert.MergeRefIdeal.Read.val_main_v50, Cert.MergeRefIdeal.Read.val_main_v51, Cert.MergeRefIdeal.Read.val_main_v52, Cert.MergeRefIdeal.Read.val_main_v53, Cert.MergeRefIdeal.Read.val_main_v54, Cert.MergeRefIdeal.Read.val_main_v55, Cert.MergeRefIdeal.Read.val_main_v56, Cert.MergeRefIdeal.Read.val_main_v57, Cert.MergeRefIdeal.Read.val_main_v58, Cert.MergeRefIdeal.Read.val_main_v59, Cert.MergeRefIdeal.Read.val_main_v60, Cert.MergeRefIdeal.Read.val_main_cst, Cert.MergeRefIdeal.Read.val_main_cst_0, Cert.MergeRefIdeal.Read.val_main_cst_1, Cert.MergeRefIdeal.Read.val_main_cst_2, Cert.MergeRefIdeal.Read.val_main_cst_3, Cert.MergeRefIdeal.Read.val_main_cst_4, Cert.MergeRefIdeal.Read.val_main_cst_5, Cert.MergeRefIdeal.Read.val_main_cst_6, term]
  simp only [Ideal.logistic]

/-- An entry of the stored tile over what the tile's windows hold. -/
theorem tile_at (x0 : FVec Ideal S512x2048 .bf16) (x1 x2 x3 x4 : FVec Ideal S512x512 .bf16) (x5 : FVec Ideal S4x2048x512 .bf16)
    (x6 : FVec Ideal S4x512x512 .bf16) (r : Fin 512) (l : Fin 512) :
    out0_7 (F := Ideal) x0 x1 x2 x3 x4 x5 x6 (ix2 r l)
      = term (fun k : Fin 2048 => x0 (ix2 r k)) (fun k => x5 (ix3 0 k l)) (fun k : Fin 512 => x1 (ix2 r k)) (fun k => x6 (ix3 0 k l))
        + term (fun k : Fin 2048 => x0 (ix2 r k)) (fun k => x5 (ix3 1 k l)) (fun k : Fin 512 => x2 (ix2 r k)) (fun k => x6 (ix3 1 k l))
        + term (fun k : Fin 2048 => x0 (ix2 r k)) (fun k => x5 (ix3 2 k l)) (fun k : Fin 512 => x3 (ix2 r k)) (fun k => x6 (ix3 2 k l))
        + term (fun k : Fin 2048 => x0 (ix2 r k)) (fun k => x5 (ix3 3 k l)) (fun k : Fin 512 => x4 (ix2 r k)) (fun k => x6 (ix3 3 k l)) := by
  unfold out0_7
  frame_out
  pointwise [k0_pay1, k0_pay2, k0_pay3, k0_pay4, term]

/-- The windows' block indices at grid point `t`: row block `t % 64`, column block `t / 64`. -/
theorem index_maps : ∀ t : Fin cfg0.N, win0_0.index t = ![t.val % 64, 0] ∧ win0_1.index t = ![t.val % 64, 0] ∧ win0_2.index t = ![t.val % 64, 0]
    ∧ win0_3.index t = ![t.val % 64, 0] ∧ win0_4.index t = ![t.val % 64, 0] ∧ win0_5.index t = ![0, 0, t.val / 64]
    ∧ win0_6.index t = ![0, 0, t.val / 64] ∧ win0_7.index t = ![t.val % 64, t.val / 64] :=
  (by decide +kernel : ∀ t : Fin grid0.N, _)

/-- The windows' blocks read at explicit entries. -/
theorem read0 (c : Dev nD) (t : Fin cfg0.N) (r : Fin 512) (k : Fin 2048) :
    (iblk m c 0 t : FVec Ideal S512x2048 .bf16) (ix2 r k) = (m ((c : Thread nD τ).loc main_arg0) : FVec Ideal S32768x2048 .bf16) (ix2 ⟨512 * (t.val % 64) + r.val, by omega⟩ k) := by
  blk_point [iblk, V, index_maps t]

theorem read1 (c : Dev nD) (t : Fin cfg0.N) (r : Fin 512) (k : Fin 512) :
    (iblk m c 1 t : FVec Ideal S512x512 .bf16) (ix2 r k) = (m ((c : Thread nD τ).loc main_arg1) : FVec Ideal S32768x512 .bf16) (ix2 ⟨512 * (t.val % 64) + r.val, by omega⟩ k) := by
  blk_point [iblk, V, index_maps t]

theorem read2 (c : Dev nD) (t : Fin cfg0.N) (r : Fin 512) (k : Fin 512) :
    (iblk m c 2 t : FVec Ideal S512x512 .bf16) (ix2 r k) = (m ((c : Thread nD τ).loc main_arg2) : FVec Ideal S32768x512 .bf16) (ix2 ⟨512 * (t.val % 64) + r.val, by omega⟩ k) := by
  blk_point [iblk, V, index_maps t]

theorem read3 (c : Dev nD) (t : Fin cfg0.N) (r : Fin 512) (k : Fin 512) :
    (iblk m c 3 t : FVec Ideal S512x512 .bf16) (ix2 r k) = (m ((c : Thread nD τ).loc main_arg3) : FVec Ideal S32768x512 .bf16) (ix2 ⟨512 * (t.val % 64) + r.val, by omega⟩ k) := by
  blk_point [iblk, V, index_maps t]

theorem read4 (c : Dev nD) (t : Fin cfg0.N) (r : Fin 512) (k : Fin 512) :
    (iblk m c 4 t : FVec Ideal S512x512 .bf16) (ix2 r k) = (m ((c : Thread nD τ).loc main_arg4) : FVec Ideal S32768x512 .bf16) (ix2 ⟨512 * (t.val % 64) + r.val, by omega⟩ k) := by
  blk_point [iblk, V, index_maps t]

/-- The host's casts of the weights keep their values. -/
theorem entry0 (c : Dev nD) : (V m c main_v0 : FVec Ideal S4x2048x2048 .bf16) = (m ((c : Thread nD τ).loc main_arg5) : FVec Ideal S4x2048x2048 .f32) := by
  funext i
  entry_read
  rfl

theorem entry1 (c : Dev nD) : (V m c main_v1 : FVec Ideal S4x512x2048 .bf16) = (m ((c : Thread nD τ).loc main_arg6) : FVec Ideal S4x512x2048 .f32) := by
  funext i
  entry_read
  rfl

theorem read5 (c : Dev nD) (t : Fin cfg0.N) (n : Fin 4) (k : Fin 2048) (l : Fin 512) :
    (iblk m c 5 t : FVec Ideal S4x2048x512 .bf16) (ix3 n k l) = (m ((c : Thread nD τ).loc main_arg5) : FVec Ideal S4x2048x2048 .f32) (ix3 n k ⟨512 * (t.val / 64) + l.val, by have h : t.val < 256 := t.isLt; omega⟩) := by
  rw [← entry0 m c]
  generalize hV : (V m c main_v0 : FVec Ideal S4x2048x2048 .bf16) = X
  blk_point [iblk, hV, index_maps t]

theorem read6 (c : Dev nD) (t : Fin cfg0.N) (n : Fin 4) (k : Fin 512) (l : Fin 512) :
    (iblk m c 6 t : FVec Ideal S4x512x512 .bf16) (ix3 n k l) = (m ((c : Thread nD τ).loc main_arg6) : FVec Ideal S4x512x2048 .f32) (ix3 n k ⟨512 * (t.val / 64) + l.val, by have h : t.val < 256 := t.isLt; omega⟩) := by
  rw [← entry1 m c]
  generalize hV : (V m c main_v1 : FVec Ideal S4x512x2048 .bf16) = X
  blk_point [iblk, hV, index_maps t]

/-- The result array after the run is the reference's result over the argument arrays. -/
theorem final (c : Dev nD) : (dats m 0 c).arrAt 7 (cfgs 0).N
    = merged (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  obtain ⟨r, l, rfl⟩ : ∃ (r l : Fin 512), y = ix2 r l := ⟨y 0, y 1, eq_ix2 y⟩
  refine (tile_at _ _ _ _ _ _ _ r l).trans ?_
  simp only [read0 m c t, read1 m c t, read2 m c t, read3 m c t, read4 m c t, read5 m c t, read6 m c t]
  refine (merged_at _ _ _ _ _ _ _ ⟨512 * (t.val % 64) + r.val, by omega⟩ ⟨512 * (t.val / 64) + l.val, by have h : t.val < 256 := t.isLt; omega⟩).symm.trans ?_
  generalize merged _ _ _ _ _ _ _ = X
  blk_point [index_maps t]

end Cert.MergeIdeal.Merge

end
-- ==== Proof.PlainValue.lean ====
module

public import proofs.«01_k».proof.Proof.Gen.PlainIdeal.Frame
public import proofs.«01_k».proof.Proof.Gen.PlainRefIdeal.Run
public import proofs.«01_k».proof.Proof.Gen.PlainRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PlainIdeal.Product

open Cert.PlainIdeal Cert.PlainIdeal.Gen

variable (m : (ℓ : Loc nD τ sig) → Buf (Elt Ideal) ℓ)

/-- The reference's result over the two argument arrays: the matrix product in f32, rounded to bf16. -/
abbrev product (X : FVec Ideal S32768x2048 .bf16) (W : FVec Ideal S2048x4352 .bf16) : FVec Ideal S32768x4352 .bf16 :=
  Cert.PlainRefIdeal.Read.val_main_v3 (F := Ideal) X W

/-- The three windows' block indices at grid point `t`: row block `t % 64`, column block `t / 64`. -/
theorem index_maps : ∀ t : Fin cfg0.N, win0_0.index t = ![t.val % 64, 0] ∧ win0_1.index t = ![0, t.val / 64] ∧ win0_2.index t = ![t.val % 64, t.val / 64] :=
  (by decide +kernel : ∀ t : Fin grid0.N, _)

/-- What grid point `t` stores at entry `y` of its block is the product at the array entry where `y` lies. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product, Cert.PlainRefIdeal.Read.val_main_v3, Cert.PlainRefIdeal.Read.val_main_v2, Cert.PlainRefIdeal.Read.val_main_v1, Cert.PlainRefIdeal.Read.val_main_v0]
  blk_point [iblk, V, index_maps t]

/-- The result array after the run is the product of the two argument arrays. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.PlainIdeal.Product

end
-- ==== Proof.Rotary.Tile.lean ====
/-
  What one run of the projection's body stores, at an entry: the product of a row and a column, turned
  lane by lane with the tables it holds.
-/
module

public import proofs.«01_k».proof.Proof.Gen.RotaryIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RotaryIdeal.Rope

open Cert.RotaryIdeal Cert.RotaryIdeal.Gen

/-- An entry of a matrix product: a row of `x` times a column of `w`. -/
def prod {M C : ℕ} (x : (⟨2, ![M, 2048]⟩ : Shape).Idx → EReal) (w : (⟨2, ![2048, C]⟩ : Shape).Idx → EReal) (r : Fin M) (e : Fin C) : EReal :=
  ∑ k : Fin 2048, x (ix2 r k) * w (ix2 k e)

/-- The lane of a column in its block of 128. -/
abbrev lane {C : ℕ} (e : Fin C) : Fin 128 := ⟨e.val % 128, by omega⟩

/-- The column `s` lanes on from `e`, around its block of 128. -/
abbrev hop {C : ℕ} (s : ℕ) (hC : C % 128 = 0) (e : Fin C) : Fin C :=
  ⟨e.val / 128 * 128 + (e.val % 128 + s) % 128, by omega⟩

/-- The turn of a block of 128 columns at offset `o` by half a block, at an entry. -/
theorem turned_wide (P : FVec Ideal S512x1280 .f32) (u v : FVec Ideal S512x128 .f32) (o : ℕ) (ho : o + 128 ≤ 1280)
    (hs : S512x1280.Slices ![0, o] S512x128) (hr : S512x128.Rotates 1 none) (hb) (r : Fin 512) (l : Fin 128) :
    truncf (F := Ideal) .bf16 (addf (mulf (extractStridedSlice S512x128 ![0, o] P hs) u)
        (mulf (dynamicRotate 1 64#32 none (extractStridedSlice S512x128 ![0, o] P hs) hr) v)) hb (ix2 r l)
      = P (ix2 r ⟨o + l.val, by omega⟩) * u (ix2 r l) + P (ix2 r ⟨o + (l.val + 64) % 128, by omega⟩) * v (ix2 r l) := by
  pointwise []
  have e1 : (l.val + 128 - 64) % 128 = (l.val + 64) % 128 := by omega
  simp only [e1]

/-- The turn of a block of 128 columns at offset `o` by a quarter of a block both ways, at an entry. -/
theorem turned_narrow (P : FVec Ideal S512x1024 .f32) (u v w : FVec Ideal S512x128 .f32) (o : ℕ) (ho : o + 128 ≤ 1024)
    (hs : S512x1024.Slices ![0, o] S512x128) (hr : S512x128.Rotates 1 none) (hb) (r : Fin 512) (l : Fin 128) :
    truncf (F := Ideal) .bf16 (addf (addf (mulf (extractStridedSlice S512x128 ![0, o] P hs) u)
        (mulf (dynamicRotate 1 96#32 none (extractStridedSlice S512x128 ![0, o] P hs) hr) v))
        (mulf (dynamicRotate 1 32#32 none (extractStridedSlice S512x128 ![0, o] P hs) hr) w)) hb (ix2 r l)
      = P (ix2 r ⟨o + l.val, by omega⟩) * u (ix2 r l) + P (ix2 r ⟨o + (l.val + 32) % 128, by omega⟩) * v (ix2 r l)
        + P (ix2 r ⟨o + (l.val + 96) % 128, by omega⟩) * w (ix2 r l) := by
  pointwise []
  have e1 : (l.val + 128 - 96) % 128 = (l.val + 32) % 128 := by omega
  have e2 : (l.val + 128 - 32) % 128 = (l.val + 96) % 128 := by omega
  simp only [e1, e2]

/-- The products that the body forms, at an entry. -/
theorem pay3_at (x0 : FVec Ideal S512x2048 .bf16) (x1 : FVec Ideal S2048x1280 .bf16) (r : Fin 512) (e : Fin 1280) :
    k0_pay3 (F := Ideal) x0 x1 (ix2 r e) = prod x0 x1 r e := by
  pointwise [k0_pay3, prod]

theorem pay4_at (x0 : FVec Ideal S512x2048 .bf16) (x2 : FVec Ideal S2048x1024 .bf16) (r : Fin 512) (e : Fin 1024) :
    k0_pay4 (F := Ideal) x0 x2 (ix2 r e) = prod x0 x2 r e := by
  pointwise [k0_pay4, prod]

theorem pay5_at (x0 : FVec Ideal S512x2048 .bf16) (x3 : FVec Ideal S2048x128 .bf16) (r : Fin 512) (e : Fin 128) :
    k0_pay5 (F := Ideal) x0 x3 (ix2 r e) = prod x0 x3 r e := by
  pointwise [k0_pay5, prod]

/-- The tables pass through the body as they are. -/
theorem pay6_eq (x : FVec Ideal S512x128 .f32) : k0_pay6 (F := Ideal) x = x := by
  funext i
  pointwise [k0_pay6]

theorem pay7_eq (x : FVec Ideal S512x128 .f32) : k0_pay7 (F := Ideal) x = x := by
  funext i
  pointwise [k0_pay7]

/-- One block of columns of the product of the heads of width 128, turned: the form in which every store is read. -/
theorem wide_piece (x0 : FVec Ideal S512x2048 .bf16) (x1 : FVec Ideal S2048x1280 .bf16) (x4 x5 : FVec Ideal S512x128 .f32) (r : Fin 512) (e : Fin 1280)
    (P : FVec Ideal S512x1280 .f32) (hP : ∀ r e, P (ix2 r e) = prod x0 x1 r e) (u v : FVec Ideal S512x128 .f32)
    (hu : ∀ i, u i = x4 i) (hv : ∀ i, v i = x5 i) (x : S512x128.Idx) (o : ℕ) (hd : o % 128 = 0) (h0 : r.val = (x 0).val) (h1 : e.val = o + (x 1).val) (ho : o + 128 ≤ 1280)
    (hs : S512x1280.Slices ![0, o] S512x128) (hr : S512x128.Rotates 1 none) (hb) :
    truncf (F := Ideal) .bf16 (addf (mulf (extractStridedSlice S512x128 ![0, o] P hs) u)
        (mulf (dynamicRotate 1 64#32 none (extractStridedSlice S512x128 ![0, o] P hs) hr) v)) hb x
      = prod x0 x1 r e * x4 (ix2 r (lane e)) + prod x0 x1 r (hop 64 rfl e) * x5 (ix2 r (lane e)) := by
  obtain ⟨a, b, rfl⟩ : ∃ (a : Fin 512) (b : Fin 128), x = ix2 a b := ⟨x 0, x 1, eq_ix2 x⟩
  obtain rfl : r = a := Fin.ext h0
  have h1' : e.val = o + b.val := h1
  rw [turned_wide _ _ _ o ho hs hr hb, hP, hP, hu, hv]
  have e1 : (⟨o + b.val, by omega⟩ : Fin 1280) = e := Fin.ext h1'.symm
  have e2 : (⟨o + (b.val + 64) % 128, by omega⟩ : Fin 1280) = hop 64 rfl e := Fin.ext (by dsimp only; omega)
  have e3 : b = lane e := Fin.ext (by dsimp only; omega)
  rw [e1, e2, ← e3]

/-- The same of the heads of width 64. -/
theorem narrow_piece (x0 : FVec Ideal S512x2048 .bf16) (x2 : FVec Ideal S2048x1024 .bf16) (x6 x7 x8 : FVec Ideal S512x128 .f32) (r : Fin 512) (e : Fin 1024)
    (P : FVec Ideal S512x1024 .f32) (hP : ∀ r e, P (ix2 r e) = prod x0 x2 r e) (u v w : FVec Ideal S512x128 .f32)
    (hu : ∀ i, u i = x6 i) (hv : ∀ i, v i = x7 i) (hw : ∀ i, w i = x8 i) (x : S512x128.Idx) (o : ℕ) (hd : o % 128 = 0) (h0 : r.val = (x 0).val) (h1 : e.val = o + (x 1).val) (ho : o + 128 ≤ 1024)
    (hs : S512x1024.Slices ![0, o] S512x128) (hr : S512x128.Rotates 1 none) (hb) :
    truncf (F := Ideal) .bf16 (addf (addf (mulf (extractStridedSlice S512x128 ![0, o] P hs) u)
        (mulf (dynamicRotate 1 96#32 none (extractStridedSlice S512x128 ![0, o] P hs) hr) v))
        (mulf (dynamicRotate 1 32#32 none (extractStridedSlice S512x128 ![0, o] P hs) hr) w)) hb x
      = prod x0 x2 r e * x6 (ix2 r (lane e)) + prod x0 x2 r (hop 32 rfl e) * x7 (ix2 r (lane e))
        + prod x0 x2 r (hop 96 rfl e) * x8 (ix2 r (lane e)) := by
  obtain ⟨a, b, rfl⟩ : ∃ (a : Fin 512) (b : Fin 128), x = ix2 a b := ⟨x 0, x 1, eq_ix2 x⟩
  obtain rfl : r = a := Fin.ext h0
  have h1' : e.val = o + b.val := h1
  rw [turned_narrow _ _ _ _ o ho hs hr hb, hP, hP, hP, hu, hv, hw]
  have e1 : (⟨o + b.val, by omega⟩ : Fin 1024) = e := Fin.ext h1'.symm
  have e2 : (⟨o + (b.val + 32) % 128, by omega⟩ : Fin 1024) = hop 32 rfl e := Fin.ext (by dsimp only; omega)
  have e4 : (⟨o + (b.val + 96) % 128, by omega⟩ : Fin 1024) = hop 96 rfl e := Fin.ext (by dsimp only; omega)
  have e3 : b = lane e := Fin.ext (by dsimp only; omega)
  rw [e1, e2, e4, ← e3]

/-- An entry stored for the heads of width 128: the product at the column times the first table, plus the product half a block on
    times the second. -/
theorem wide_at (x0 : FVec Ideal S512x2048 .bf16) (x1 : FVec Ideal S2048x1280 .bf16) (x2 : FVec Ideal S2048x1024 .bf16) (x3 : FVec Ideal S2048x128 .bf16)
    (x4 x5 x6 x7 x8 : FVec Ideal S512x128 .f32) (r : Fin 512) (e : Fin 1280) :
    out0_9 (F := Ideal) x0 x1 x2 x3 x4 x5 x6 x7 x8 (ix2 r e)
      = prod x0 x1 r e * x4 (ix2 r (lane e)) + prod x0 x1 r (hop 64 rfl e) * x5 (ix2 r (lane e)) := by
  unfold_out out0_9
  frame_out
  canon_tiles x h
  all_goals open_payloads
  all_goals first
    | exact wide_piece x0 x1 x4 x5 r e _ (pay3_at x0 x1) _ _ (congrFun (pay6_eq x4)) (congrFun (pay7_eq x5)) x _ (by decide) h0 h1 (by decide) _ _ _
    | exact wide_piece x0 x1 x4 x5 r e _ (pay3_at x0 x1) _ _ (congrFun (pay6_eq x4)) (congrFun (pay7_eq x5)) x 0 (by decide) h0 (h1.trans (Nat.zero_add _).symm) (by decide) _ _ _

/-- An entry stored for the heads of width 64: the product at the column times the first table, plus the products a quarter of a
    block on and three quarters on times the other two. -/
theorem narrow_at (x0 : FVec Ideal S512x2048 .bf16) (x1 : FVec Ideal S2048x1280 .bf16) (x2 : FVec Ideal S2048x1024 .bf16) (x3 : FVec Ideal S2048x128 .bf16)
    (x4 x5 x6 x7 x8 : FVec Ideal S512x128 .f32) (r : Fin 512) (e : Fin 1024) :
    out0_10 (F := Ideal) x0 x1 x2 x3 x4 x5 x6 x7 x8 (ix2 r e)
      = prod x0 x2 r e * x6 (ix2 r (lane e)) + prod x0 x2 r (hop 32 rfl e) * x7 (ix2 r (lane e))
        + prod x0 x2 r (hop 96 rfl e) * x8 (ix2 r (lane e)) := by
  unfold_out out0_10
  frame_out
  canon_tiles x h
  all_goals open_payloads
  all_goals first
    | exact narrow_piece x0 x2 x6 x7 x8 r e _ (pay4_at x0 x2) _ _ _ (congrFun (pay6_eq x6)) (congrFun (pay6_eq x7)) (congrFun (pay6_eq x8)) x _ (by decide) h0 h1 (by decide) _ _ _
    | exact narrow_piece x0 x2 x6 x7 x8 r e _ (pay4_at x0 x2) _ _ _ (congrFun (pay6_eq x6)) (congrFun (pay6_eq x7)) (congrFun (pay6_eq x8)) x 0 (by decide) h0 (h1.trans (Nat.zero_add _).symm) (by decide) _ _ _

/-- An entry stored of the small columns: the product. -/
theorem small_at (x0 : FVec Ideal S512x2048 .bf16) (x1 : FVec Ideal S2048x1280 .bf16) (x2 : FVec Ideal S2048x1024 .bf16) (x3 : FVec Ideal S2048x128 .bf16)
    (x4 x5 x6 x7 x8 : FVec Ideal S512x128 .f32) (r : Fin 512) (e : Fin 128) :
    out0_11 (F := Ideal) x0 x1 x2 x3 x4 x5 x6 x7 x8 (ix2 r e) = prod x0 x3 r e := by
  unfold out0_11
  frame_out
  exact pay5_at x0 x3 r e

end Cert.RotaryIdeal.Rope

end
-- ==== Proof.Rotary.Tables.lean ====
/-
  The tables of cosines and sines that the host prepares, at an entry, over the reference's.
-/
module

public import proofs.«01_k».proof.Proof.Gen.RotaryIdeal.Frame
public import proofs.«01_k».proof.Proof.Gen.RotaryRefIdeal.Run
public import proofs.«01_k».proof.Proof.Gen.RotaryRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RotaryIdeal.Rope

open Cert.RotaryIdeal Cert.RotaryIdeal.Gen

variable (m : (ℓ : Loc nD τ sig) → Buf (Elt Ideal) ℓ)

/-- The reference's cosines and sines of position `p` and frequency `j`, for heads of width 128 and of width 64. -/
abbrev cosW (p : Fin 2048) (j : Fin 64) : EReal := Cert.RotaryRefIdeal.Read.val_main_v22 (F := Ideal) (ix2 p j)
abbrev sinW (p : Fin 2048) (j : Fin 64) : EReal := Cert.RotaryRefIdeal.Read.val_main_v24 (F := Ideal) (ix2 p j)
abbrev cosN (p : Fin 2048) (j : Fin 32) : EReal := Cert.RotaryRefIdeal.Read.val_main_v62 (F := Ideal) (ix2 p j)
abbrev sinN (p : Fin 2048) (j : Fin 32) : EReal := Cert.RotaryRefIdeal.Read.val_main_v64 (F := Ideal) (ix2 p j)

/-- The reference's four arrays of cosines and sines. -/
abbrev cosines : FVec Ideal S2048x64 .f32 := Cert.RotaryRefIdeal.Read.val_main_v22 (F := Ideal)
abbrev sines : FVec Ideal S2048x64 .f32 := Cert.RotaryRefIdeal.Read.val_main_v24 (F := Ideal)
abbrev cosines' : FVec Ideal S2048x32 .f32 := Cert.RotaryRefIdeal.Read.val_main_v62 (F := Ideal)
abbrev sines' : FVec Ideal S2048x32 .f32 := Cert.RotaryRefIdeal.Read.val_main_v64 (F := Ideal)
/-- The zeros the host fills in. -/
abbrev zeros : FVec Ideal S2048x32 .f32 := broadcastInDim S2048x32 ![] bcast_S_S2048x32 (constant (F := Ideal) S_ .f32 0x00000000#32)

/-- The host's tables are these arrays side by side. -/
theorem whole0 (c : Dev nD) : (V m c main_v18 : FVec Ideal S2048x128 .f32) = concatenate S2048x128 1
    [⟨S2048x64, cosines⟩, ⟨S2048x64, cosines⟩] concatenates_S2048x64_S2048x64_S2048x128_d1 := rfl

theorem whole1 (c : Dev nD) : (V m c main_v22 : FVec Ideal S2048x128 .f32) = concatenate S2048x128 1
    [⟨S2048x64, Host.negf (F := Ideal) (φ := .f32) sines⟩, ⟨S2048x64, sines⟩] concatenates_S2048x64_S2048x64_S2048x128_d1 := rfl

theorem whole2 (c : Dev nD) : (V m c main_v40 : FVec Ideal S2048x128 .f32) = concatenate S2048x128 1
    [⟨S2048x32, cosines'⟩, ⟨S2048x32, cosines'⟩, ⟨S2048x32, cosines'⟩, ⟨S2048x32, cosines'⟩] concatenates_S2048x32_S2048x32_S2048x32_S2048x32_S2048x128_d1 := rfl

theorem whole3 (c : Dev nD) : (V m c main_v43 : FVec Ideal S2048x128 .f32) = concatenate S2048x128 1
    [⟨S2048x32, Host.negf (F := Ideal) (φ := .f32) sines'⟩, ⟨S2048x32, zeros⟩, ⟨S2048x32, Host.negf (F := Ideal) (φ := .f32) sines'⟩, ⟨S2048x32, zeros⟩] concatenates_S2048x32_S2048x32_S2048x32_S2048x32_S2048x128_d1 := rfl

theorem whole4 (c : Dev nD) : (V m c main_v44 : FVec Ideal S2048x128 .f32) = concatenate S2048x128 1
    [⟨S2048x32, zeros⟩, ⟨S2048x32, sines'⟩, ⟨S2048x32, zeros⟩, ⟨S2048x32, sines'⟩] concatenates_S2048x32_S2048x32_S2048x32_S2048x32_S2048x128_d1 := rfl

/-- For heads of width 128, an entry of the two tables: the cosine, and the sine with its sign. -/
theorem table0 (c : Dev nD) (p : Fin 2048) (l : Fin 128) :
    (V m c main_v18 : FVec Ideal S2048x128 .f32) (ix2 p l) = cosines (ix2 p ⟨l.val % 64, by omega⟩) := by
  rw [whole0]
  generalize cosines = X
  pointwise []
  split_ifs <;> refine congrArg X (congrArg (ix2 p) (Fin.ext ?_)) <;> dsimp only <;> omega

theorem table1 (c : Dev nD) (p : Fin 2048) (l : Fin 128) :
    (V m c main_v22 : FVec Ideal S2048x128 .f32) (ix2 p l)
      = if l.val < 64 then -sines (ix2 p ⟨l.val % 64, by omega⟩) else sines (ix2 p ⟨l.val % 64, by omega⟩) := by
  rw [whole1]
  generalize sines = X
  pointwise []
  split_ifs <;> first
    | (refine congrArg (fun y => -X y) (congrArg (ix2 p) (Fin.ext ?_)); dsimp only; omega)
    | (refine congrArg X (congrArg (ix2 p) (Fin.ext ?_)); dsimp only; omega)

/-- Four tables side by side, at an entry. -/
theorem four_at (A B C D : FVec Ideal S2048x32 .f32) (h) (p : Fin 2048) (l : Fin 128) :
    concatenate S2048x128 1 [⟨S2048x32, A⟩, ⟨S2048x32, B⟩, ⟨S2048x32, C⟩, ⟨S2048x32, D⟩] h (ix2 p l)
      = if l.val < 32 then A (ix2 p ⟨l.val % 32, by omega⟩) else if l.val < 64 then B (ix2 p ⟨l.val % 32, by omega⟩)
        else if l.val < 96 then C (ix2 p ⟨l.val % 32, by omega⟩) else D (ix2 p ⟨l.val % 32, by omega⟩) := by
  pointwise []
  by_cases h1 : l.val < 32
  · rw [dif_pos h1, if_pos h1]
    exact congrArg A (congrArg (ix2 p) (Fin.ext (by dsimp only; omega)))
  rw [dif_neg h1, if_neg h1]
  by_cases h2 : l.val < 64
  · rw [dif_pos (show l.val - 32 < 32 by omega), if_pos h2]
    exact congrArg B (congrArg (ix2 p) (Fin.ext (by dsimp only; omega)))
  rw [dif_neg (show ¬ l.val - 32 < 32 by omega), if_neg h2]
  by_cases h3 : l.val < 96
  · rw [dif_pos (show l.val - 32 - 32 < 32 by omega), if_pos h3]
    exact congrArg C (congrArg (ix2 p) (Fin.ext (by dsimp only; omega)))
  rw [dif_neg (show ¬ l.val - 32 - 32 < 32 by omega), if_neg h3]
  exact congrArg D (congrArg (ix2 p) (Fin.ext (by dsimp only; omega)))

/-- The zeros and the signs at an entry. -/
theorem zeros_at (i : S2048x32.Idx) : zeros i = 0 := by
  pointwise [zeros]

theorem neg_at (X : FVec Ideal S2048x32 .f32) (i : S2048x32.Idx) : Host.negf (F := Ideal) (φ := .f32) X i = -X i := by
  pointwise []

/-- For heads of width 64, an entry of the three tables: the cosine, the sine of the first half with its sign, and the sine of the
    second half. -/
theorem table2 (c : Dev nD) (p : Fin 2048) (l : Fin 128) :
    (V m c main_v40 : FVec Ideal S2048x128 .f32) (ix2 p l) = cosines' (ix2 p ⟨l.val % 32, by omega⟩) := by
  rw [whole2]
  refine (four_at _ _ _ _ _ p l).trans ?_
  simp only [ite_self]

theorem table3 (c : Dev nD) (p : Fin 2048) (l : Fin 128) :
    (V m c main_v43 : FVec Ideal S2048x128 .f32) (ix2 p l) = if l.val % 64 < 32 then -sines' (ix2 p ⟨l.val % 32, by omega⟩) else 0 := by
  rw [whole3]
  refine (four_at _ _ _ _ _ p l).trans ?_
  rw [zeros_at, neg_at]
  generalize sines' (ix2 p ⟨l.val % 32, _⟩) = y
  split_ifs <;> first | rfl | (exfalso; omega)

theorem table4 (c : Dev nD) (p : Fin 2048) (l : Fin 128) :
    (V m c main_v44 : FVec Ideal S2048x128 .f32) (ix2 p l) = if l.val % 64 < 32 then 0 else sines' (ix2 p ⟨l.val % 32, by omega⟩) := by
  rw [whole4]
  refine (four_at _ _ _ _ _ p l).trans ?_
  rw [zeros_at]
  generalize sines' (ix2 p ⟨l.val % 32, _⟩) = y
  split_ifs <;> first | rfl | (exfalso; omega)

end Cert.RotaryIdeal.Rope

end
-- ==== Proof.Rotary.Reference.lean ====
/-
  The reference's results at an entry, over the products of the hidden rows with the weights' columns.
-/
module

public import proofs.«01_k».proof.Proof.Rotary.Tile
public import proofs.«01_k».proof.Proof.Rotary.Tables

@[expose] public section

set_option maxRecDepth 16384

noncomputable section

open Idealize.ShloMosaic Idealize.ShloMosaic.TcCoe Idealize.SL.Sem

namespace Cert.RotaryIdeal.Rope

open Cert.RotaryRefIdeal Cert.RotaryRefIdeal.Read

/-- The reference's products at an entry. -/
theorem small_ref_at (H : FVec Ideal S32768x2048 .bf16) (W : FVec Ideal S2048x128 .bf16) (i : Fin 32768) (e : Fin 128) :
    val_main_v86 (F := Ideal) H W (ix2 i e) = ∑ k : Fin 2048, H (ix2 i k) * W (ix2 k e) := by
  pointwise [val_main_v86, val_main_v0, val_main_v3]

theorem v4_at (H : FVec Ideal S32768x2048 .bf16) (W : FVec Ideal S2048x1280 .bf16) (i : Fin 32768) (e : Fin 1280) :
    val_main_v4 (F := Ideal) H W (ix2 i e) = ∑ k : Fin 2048, H (ix2 i k) * W (ix2 k e) := by
  pointwise [val_main_v4, val_main_v0, val_main_v1]

theorem v44_at (H : FVec Ideal S32768x2048 .bf16) (W : FVec Ideal S2048x1024 .bf16) (i : Fin 32768) (e : Fin 1024) :
    val_main_v44 (F := Ideal) H W (ix2 i e) = ∑ k : Fin 2048, H (ix2 i k) * W (ix2 k e) := by
  pointwise [val_main_v44, val_main_v0, val_main_v2]

/-- The turn by halves of a head of width 128, as one sum of two products at every column. -/
theorem wide_turn (P : Fin 1280 → EReal) (C S : Fin 64 → EReal) (e : Fin 1280) :
    (if h : e.val % 128 < 64 then
        P e * C ⟨e.val % 128, h⟩ - P ⟨e.val / 128 * 128 + (64 + e.val % 128), by omega⟩ * S ⟨e.val % 128, h⟩
      else
        P ⟨e.val / 128 * 128 + (64 + (e.val % 128 - 64)), by omega⟩ * C ⟨e.val % 128 - 64, by omega⟩
          + P ⟨e.val / 128 * 128 + (e.val % 128 - 64), by omega⟩ * S ⟨e.val % 128 - 64, by omega⟩)
      = P e * C ⟨(lane e).val % 64, by omega⟩
        + P (hop 64 rfl e) * (if (lane e).val < 64 then -S ⟨(lane e).val % 64, by omega⟩ else S ⟨(lane e).val % 64, by omega⟩) := by
  by_cases h : e.val % 128 < 64
  · have e1 : (⟨e.val / 128 * 128 + (64 + e.val % 128), by omega⟩ : Fin 1280) = hop 64 rfl e := Fin.ext (by dsimp only; omega)
    have e2 : (⟨e.val % 128, h⟩ : Fin 64) = ⟨(lane e).val % 64, by omega⟩ := Fin.ext (by dsimp only; omega)
    rw [dif_pos h, if_pos (show (lane e).val < 64 from h), e1, e2, sub_eq_add_neg, mul_neg]
  · have e1 : (⟨e.val / 128 * 128 + (64 + (e.val % 128 - 64)), by omega⟩ : Fin 1280) = e := Fin.ext (by dsimp only; omega)
    have e2 : (⟨e.val / 128 * 128 + (e.val % 128 - 64), by omega⟩ : Fin 1280) = hop 64 rfl e := Fin.ext (by dsimp only; omega)
    have e3 : (⟨e.val % 128 - 64, by omega⟩ : Fin 64) = ⟨(lane e).val % 64, by omega⟩ := Fin.ext (by dsimp only; omega)
    rw [dif_neg h, if_neg (show ¬(lane e).val < 64 from h), e1, e2, e3]

/-- The turn by halves of a head of width 64, as one sum of three products at every column. -/
theorem narrow_turn (P : Fin 1024 → EReal) (C S : Fin 32 → EReal) (e : Fin 1024) :
    (if h : e.val % 64 < 32 then
        P e * C ⟨e.val % 64, h⟩ - P ⟨e.val / 64 * 64 + (32 + e.val % 64), by omega⟩ * S ⟨e.val % 64, h⟩
      else
        P ⟨e.val / 64 * 64 + (32 + (e.val % 64 - 32)), by omega⟩ * C ⟨e.val % 64 - 32, by omega⟩
          + P ⟨e.val / 64 * 64 + (e.val % 64 - 32), by omega⟩ * S ⟨e.val % 64 - 32, by omega⟩)
      = P e * C ⟨(lane e).val % 32, by omega⟩
        + P (hop 32 rfl e) * (if (lane e).val % 64 < 32 then -S ⟨(lane e).val % 32, by omega⟩ else 0)
        + P (hop 96 rfl e) * (if (lane e).val % 64 < 32 then 0 else S ⟨(lane e).val % 32, by omega⟩) := by
  have hl : (lane e).val % 64 = e.val % 64 := by dsimp only; omega
  by_cases h : e.val % 64 < 32
  · have e1 : (⟨e.val / 64 * 64 + (32 + e.val % 64), by omega⟩ : Fin 1024) = hop 32 rfl e := Fin.ext (by dsimp only; omega)
    have e2 : (⟨e.val % 64, h⟩ : Fin 32) = ⟨(lane e).val % 32, by omega⟩ := Fin.ext (by dsimp only; omega)
    rw [dif_pos h, hl, if_pos h, if_pos h, e1, e2, sub_eq_add_neg, mul_neg, mul_zero, add_zero]
  · have e1 : (⟨e.val / 64 * 64 + (32 + (e.val % 64 - 32)), by omega⟩ : Fin 1024) = e := Fin.ext (by dsimp only; omega)
    have e2 : (⟨e.val / 64 * 64 + (e.val % 64 - 32), by omega⟩ : Fin 1024) = hop 96 rfl e := Fin.ext (by dsimp only; omega)
    have e3 : (⟨e.val % 64 - 32, by omega⟩ : Fin 32) = ⟨(lane e).val % 32, by omega⟩ := Fin.ext (by dsimp only; omega)
    rw [dif_neg h, hl, if_neg h, if_neg h, e1, e2, e3, mul_zero, add_zero]

/-- The rotated heads of width 128 at an entry: the product at the column times the cosine, plus the product half a head on
    times the sine, with its sign in the first half. -/
theorem wide_ref_at (H : FVec Ideal S32768x2048 .bf16) (W : FVec Ideal S2048x1280 .bf16) (i : Fin 32768) (e : Fin 1280) :
    val_main_v84 (F := Ideal) H W (ix2 i e)
      = val_main_v4 (F := Ideal) H W (ix2 i e) * cosines (ix2 ⟨i.val % 2048, by omega⟩ ⟨(lane e).val % 64, by omega⟩)
        + val_main_v4 (F := Ideal) H W (ix2 i (hop 64 rfl e))
          * (if (lane e).val < 64 then -sines (ix2 ⟨i.val % 2048, by omega⟩ ⟨(lane e).val % 64, by omega⟩)
              else sines (ix2 ⟨i.val % 2048, by omega⟩ ⟨(lane e).val % 64, by omega⟩)) := by
  pointwise [val_main_v84, val_main_v43, val_main_v42, val_main_v34, val_main_v41, val_main_v30, val_main_v33, val_main_v37, val_main_v40, val_main_v26, val_main_v27, val_main_v29, val_main_v32, val_main_v36, val_main_v39, val_main_v28, val_main_v31, val_main_v35, val_main_v38, val_main_v23, val_main_v25, val_main_v5]
  exact wide_turn (fun e' => val_main_v4 (F := Ideal) H W (ix2 i e')) (fun j => val_main_v22 (F := Ideal) (ix2 ⟨i.val % 2048, by omega⟩ j))
    (fun j => val_main_v24 (F := Ideal) (ix2 ⟨i.val % 2048, by omega⟩ j)) e

/-- The rotated heads of width 64 at an entry, over the three tables: one of the two sines is zero, according to the half. -/
theorem narrow_ref_at (H : FVec Ideal S32768x2048 .bf16) (W : FVec Ideal S2048x1024 .bf16) (i : Fin 32768) (e : Fin 1024) :
    val_main_v85 (F := Ideal) H W (ix2 i e)
      = val_main_v44 (F := Ideal) H W (ix2 i e) * cosines' (ix2 ⟨i.val % 2048, by omega⟩ ⟨(lane e).val % 32, by omega⟩)
        + val_main_v44 (F := Ideal) H W (ix2 i (hop 32 rfl e))
          * (if (lane e).val % 64 < 32 then -sines' (ix2 ⟨i.val % 2048, by omega⟩ ⟨(lane e).val % 32, by omega⟩) else 0)
        + val_main_v44 (F := Ideal) H W (ix2 i (hop 96 rfl e))
          * (if (lane e).val % 64 < 32 then 0 else sines' (ix2 ⟨i.val % 2048, by omega⟩ ⟨(lane e).val % 32, by omega⟩)) := by
  pointwise [val_main_v85, val_main_v83, val_main_v82, val_main_v74, val_main_v81, val_main_v70, val_main_v73, val_main_v77, val_main_v80, val_main_v66, val_main_v67, val_main_v69, val_main_v72, val_main_v76, val_main_v79, val_main_v68, val_main_v71, val_main_v75, val_main_v78, val_main_v63, val_main_v65, val_main_v45]
  exact narrow_turn (fun e' => val_main_v44 (F := Ideal) H W (ix2 i e')) (fun j => val_main_v62 (F := Ideal) (ix2 ⟨i.val % 2048, by omega⟩ j))
    (fun j => val_main_v64 (F := Ideal) (ix2 ⟨i.val % 2048, by omega⟩ j)) e

end Cert.RotaryIdeal.Rope

end
-- ==== Proof.Rotary.Value.lean ====
/-
  The projections with the rotary turn: what the kernel stores is the reference's three results.
-/
module

public import proofs.«01_k».proof.Proof.Rotary.Reference

@[expose] public section

set_option maxRecDepth 16384

noncomputable section

open Idealize.ShloMosaic Idealize.ShloMosaic.TcCoe Idealize.SL.Sem
open Idealize.ShloMosaic.Pipeline (Dat)

namespace Cert.RotaryIdeal.Rope

open Cert.RotaryIdeal Cert.RotaryIdeal.Gen

variable (m : (ℓ : Loc nD τ sig) → Buf (Elt Ideal) ℓ)

/-- The windows' block indices at grid point `t`: the rows and the results move with `t`, the tables with the position `t % 4`. -/
theorem index_maps : ∀ t : Fin cfg0.N, win0_0.index t = ![t.val, 0] ∧ win0_1.index t = ![0, 0] ∧ win0_2.index t = ![0, 0] ∧ win0_3.index t = ![0, 0]
    ∧ win0_4.index t = ![t.val % 4, 0] ∧ win0_5.index t = ![t.val % 4, 0] ∧ win0_6.index t = ![t.val % 4, 0] ∧ win0_7.index t = ![t.val % 4, 0]
    ∧ win0_8.index t = ![t.val % 4, 0] ∧ win0_9.index t = ![t.val, 0] ∧ win0_10.index t = ![t.val, 0] ∧ win0_11.index t = ![t.val, 0] :=
  (by decide +kernel : ∀ t : Fin grid0.N, _)

/-- The row of the arrays at row `r` of grid point `t`, and its position in the sequence. -/
abbrev row (t : Fin cfg0.N) (r : Fin 512) : Fin 32768 := ⟨512 * t.val + r.val, by have h : t.val < 64 := t.isLt; omega⟩
abbrev position (t : Fin cfg0.N) (r : Fin 512) : Fin 2048 := ⟨512 * (t.val % 4) + r.val, by omega⟩

theorem row_mod (t : Fin cfg0.N) (r : Fin 512) : (⟨(row t r).val % 2048, by omega⟩ : Fin 2048) = position t r :=
  Fin.ext (by dsimp only; omega)

/-- The windows' blocks read at explicit entries. -/
theorem read0 (c : Dev nD) (t : Fin cfg0.N) (r : Fin 512) (k : Fin 2048) :
    (iblk m c 0 t : FVec Ideal S512x2048 .bf16) (ix2 r k) = (m ((c : Thread nD τ).loc main_arg0) : FVec Ideal S32768x2048 .bf16) (ix2 (row t r) k) := by
  blk_point [iblk, V, index_maps t]

theorem read1 (c : Dev nD) (t : Fin cfg0.N) (k : Fin 2048) (e : Fin 1280) :
    (iblk m c 1 t : FVec Ideal S2048x1280 .bf16) (ix2 k e) = (m ((c : Thread nD τ).loc main_arg1) : FVec Ideal S2048x1280 .bf16) (ix2 k e) := by
  blk_point [iblk, V, index_maps t]

theorem read2 (c : Dev nD) (t : Fin cfg0.N) (k : Fin 2048) (e : Fin 1024) :
    (iblk m c 2 t : FVec Ideal S2048x1024 .bf16) (ix2 k e) = (m ((c : Thread nD τ).loc main_arg2) : FVec Ideal S2048x1024 .bf16) (ix2 k e) := by
  blk_point [iblk, V, index_maps t]

theorem read3 (c : Dev nD) (t : Fin cfg0.N) (k : Fin 2048) (e : Fin 128) :
    (iblk m c 3 t : FVec Ideal S2048x128 .bf16) (ix2 k e) = (m ((c : Thread nD τ).loc main_arg3) : FVec Ideal S2048x128 .bf16) (ix2 k e) := by
  blk_point [iblk, V, index_maps t]

theorem read4 (c : Dev nD) (t : Fin cfg0.N) (r : Fin 512) (l : Fin 128) :
    (iblk m c 4 t : FVec Ideal S512x128 .f32) (ix2 r l) = (V m c main_v18 : FVec Ideal S2048x128 .f32) (ix2 (position t r) l) := by
  generalize hV : (V m c main_v18 : FVec Ideal S2048x128 .f32) = X
  blk_point [iblk, hV, index_maps t]

theorem read5 (c : Dev nD) (t : Fin cfg0.N) (r : Fin 512) (l : Fin 128) :
    (iblk m c 5 t : FVec Ideal S512x128 .f32) (ix2 r l) = (V m c main_v22 : FVec Ideal S2048x128 .f32) (ix2 (position t r) l) := by
  generalize hV : (V m c main_v22 : FVec Ideal S2048x128 .f32) = X
  blk_point [iblk, hV, index_maps t]

theorem read6 (c : Dev nD) (t : Fin cfg0.N) (r : Fin 512) (l : Fin 128) :
    (iblk m c 6 t : FVec Ideal S512x128 .f32) (ix2 r l) = (V m c main_v40 : FVec Ideal S2048x128 .f32) (ix2 (position t r) l) := by
  generalize hV : (V m c main_v40 : FVec Ideal S2048x128 .f32) = X
  blk_point [iblk, hV, index_maps t]

theorem read7 (c : Dev nD) (t : Fin cfg0.N) (r : Fin 512) (l : Fin 128) :
    (iblk m c 7 t : FVec Ideal S512x128 .f32) (ix2 r l) = (V m c main_v43 : FVec Ideal S2048x128 .f32) (ix2 (position t r) l) := by
  generalize hV : (V m c main_v43 : FVec Ideal S2048x128 .f32) = X
  blk_point [iblk, hV, index_maps t]

theorem read8 (c : Dev nD) (t : Fin cfg0.N) (r : Fin 512) (l : Fin 128) :
    (iblk m c 8 t : FVec Ideal S512x128 .f32) (ix2 r l) = (V m c main_v44 : FVec Ideal S2048x128 .f32) (ix2 (position t r) l) := by
  generalize hV : (V m c main_v44 : FVec Ideal S2048x128 .f32) = X
  blk_point [iblk, hV, index_maps t]

/-- The tile's products are the reference's. -/
theorem wide_prod (c : Dev nD) (t : Fin cfg0.N) (r : Fin 512) (e : Fin 1280) :
    prod (iblk m c 0 t : FVec Ideal S512x2048 .bf16) (iblk m c 1 t : FVec Ideal S2048x1280 .bf16) r e
      = Cert.RotaryRefIdeal.Read.val_main_v4 (F := Ideal) (m ((c : Thread nD τ).loc main_arg0)) (m ((c : Thread nD τ).loc main_arg1)) (ix2 (row t r) e) := by
  refine Eq.trans ?_ (v4_at _ _ _ _).symm
  unfold prod
  simp only [read0 m c t, read1 m c t]

theorem narrow_prod (c : Dev nD) (t : Fin cfg0.N) (r : Fin 512) (e : Fin 1024) :
    prod (iblk m c 0 t : FVec Ideal S512x2048 .bf16) (iblk m c 2 t : FVec Ideal S2048x1024 .bf16) r e
      = Cert.RotaryRefIdeal.Read.val_main_v44 (F := Ideal) (m ((c : Thread nD τ).loc main_arg0)) (m ((c : Thread nD τ).loc main_arg2)) (ix2 (row t r) e) := by
  refine Eq.trans ?_ (v44_at _ _ _ _).symm
  unfold prod
  simp only [read0 m c t, read2 m c t]

theorem small_prod (c : Dev nD) (t : Fin cfg0.N) (r : Fin 512) (e : Fin 128) :
    prod (iblk m c 0 t : FVec Ideal S512x2048 .bf16) (iblk m c 3 t : FVec Ideal S2048x128 .bf16) r e
      = Cert.RotaryRefIdeal.Read.val_main_v86 (F := Ideal) (m ((c : Thread nD τ).loc main_arg0)) (m ((c : Thread nD τ).loc main_arg3)) (ix2 (row t r) e) := by
  refine Eq.trans ?_ (small_ref_at _ _ _ _).symm
  unfold prod
  simp only [read0 m c t, read3 m c t]

/-- The result arrays after the run are the reference's results over the argument arrays. -/
theorem final_wide (c : Dev nD) : (dats m 0 c).arrAt 9 (cfgs 0).N
    = Cert.RotaryRefIdeal.Read.val_main_v84 (F := Ideal) (m ((c : Thread nD τ).loc main_arg0)) (m ((c : Thread nD τ).loc main_arg1)) := by
  refine (dats m 0 c).arrAt_eq_of_covers 9 _ (by decide +kernel) fun t _ y => ?_
  blk_simp
  rw [after0_9]
  obtain ⟨r, e, rfl⟩ : ∃ (r : Fin 512) (e : Fin 1280), y = ix2 r e := ⟨y 0, y 1, eq_ix2 y⟩
  refine (wide_at _ _ _ _ _ _ _ _ _ r e).trans ?_
  rw [wide_prod m c t, wide_prod m c t, read4 m c t, read5 m c t, table0, table1, ← row_mod t r]
  refine (wide_ref_at _ _ (row t r) e).symm.trans ?_
  generalize Cert.RotaryRefIdeal.Read.val_main_v84 (F := Ideal) _ _ = X
  blk_point [index_maps t]

theorem final_narrow (c : Dev nD) : (dats m 0 c).arrAt 10 (cfgs 0).N
    = Cert.RotaryRefIdeal.Read.val_main_v85 (F := Ideal) (m ((c : Thread nD τ).loc main_arg0)) (m ((c : Thread nD τ).loc main_arg2)) := by
  refine (dats m 0 c).arrAt_eq_of_covers 10 _ (by decide +kernel) fun t _ y => ?_
  blk_simp
  rw [after0_10]
  obtain ⟨r, e, rfl⟩ : ∃ (r : Fin 512) (e : Fin 1024), y = ix2 r e := ⟨y 0, y 1, eq_ix2 y⟩
  refine (narrow_at _ _ _ _ _ _ _ _ _ r e).trans ?_
  rw [narrow_prod m c t, narrow_prod m c t, narrow_prod m c t, read6 m c t, read7 m c t, read8 m c t, table2, table3, table4, ← row_mod t r]
  refine (narrow_ref_at _ _ (row t r) e).symm.trans ?_
  generalize Cert.RotaryRefIdeal.Read.val_main_v85 (F := Ideal) _ _ = X
  blk_point [index_maps t]

theorem final_small (c : Dev nD) : (dats m 0 c).arrAt 11 (cfgs 0).N
    = Cert.RotaryRefIdeal.Read.val_main_v86 (F := Ideal) (m ((c : Thread nD τ).loc main_arg0)) (m ((c : Thread nD τ).loc main_arg3)) := by
  refine (dats m 0 c).arrAt_eq_of_covers 11 _ (by decide +kernel) fun t _ y => ?_
  blk_simp
  rw [after0_11]
  obtain ⟨r, e, rfl⟩ : ∃ (r : Fin 512) (e : Fin 128), y = ix2 r e := ⟨y 0, y 1, eq_ix2 y⟩
  refine (small_at _ _ _ _ _ _ _ _ _ r e).trans ?_
  rw [small_prod m c t]
  generalize Cert.RotaryRefIdeal.Read.val_main_v86 (F := Ideal) _ _ = X
  blk_point [index_maps t]

end Cert.RotaryIdeal.Rope

end
-- ==== Proof.Output.StoresIdeal.lean ====
/-
  One run of the output projection's body: what it leaves in the buffers of its three results. The
  second result's rows are stored sixteen apart, so what its buffer holds is said entry by entry.
-/
module

public import proofs.«01_k».proof.Proof.Gen.OutputIdeal.Launch
public import proofs.«01_k».proof.Proof.Gen.OutputIdeal.Skeleton
public import proofs.«01_k».proof.Proof.Gen.OutputIdeal.Points
public import Idealize.ShloMosaic.Lib.Pipeline.FrameBody
public import Idealize.ShloMosaic.Lib.Pipeline.Value
public import Idealize.ShloMosaic.Lib.Pipeline.ValueKit
public import Idealize.ShloMosaic.Lib.Claim
public import Idealize.ShloMosaic.Lib.Tactic

@[expose] public section

set_option maxRecDepth 16384

noncomputable section

namespace Cert.OutputIdeal.Stores

open Cert.OutputIdeal Cert.OutputIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first and the last 256 rows of a block of 512. -/
abbrev top : Rect S512x2048 := Rect.unit (s := S512x2048) ![0, 0] S256x2048.size inb_S512x2048_S256x2048_0_0
abbrev bottom : Rect S512x2048 := Rect.unit (s := S512x2048) ![256, 0] S256x2048.size inb_S512x2048_S256x2048_256_0
/-- The weight and the gain, whole. -/
abbrev weight : Rect S2048x2048 := Rect.unit (s := S2048x2048) ![0, 0] S2048x2048.size inb_S2048x2048_S2048x2048_0_0
abbrev gain : Rect S1x2048 := Rect.unit (s := S1x2048) ![0, 0] S1x2048.size inb_S1x2048_S1x2048_0_0

/-- The sum's two halves. -/
def sumTop (x0 : Vec F S512x2048 .bf16) (x1 : Vec F S512x2048 .f32) (x2 : Vec F S2048x2048 .bf16) : FVec F S256x2048 .f32 :=
  k0_pay3 (View.ld x1 top) (View.ld x0 top) (View.ld x2 weight)
def sumBottom (x0 : Vec F S512x2048 .bf16) (x1 : Vec F S512x2048 .f32) (x2 : Vec F S2048x2048 .bf16) : FVec F S256x2048 .f32 :=
  k0_pay3 (View.ld x1 bottom) (View.ld x0 bottom) (View.ld x2 weight)

/-- A half normed: each row over its root mean square, times the gain. -/
def normed (v : FVec F S256x2048 .f32) (x3 : Vec F S1x2048 .f32) : FVec F S256x2048 .f32 :=
  k0_pay38 v (k0_pay37 v) (View.ld x3 gain)

theorem sum_top : k0_pay2 (F := F) = k0_pay3 := rfl

theorem normed_top (u : Vec F S256x2048 .f32) (v : Vec F S256x2048 .bf16) (w : Vec F S2048x2048 .bf16) (g : Vec F S1x2048 .f32) :
    k0_pay4 u v w g = k0_pay38 (k0_pay3 u v w) (k0_pay37 (k0_pay3 u v w)) g := rfl

/-- The first result's buffer: the sum. -/
def sums (x0 : Vec F S512x2048 .bf16) (x1 : Vec F S512x2048 .f32) (x2 : Vec F S2048x2048 .bf16) : Vec F S512x2048 .f32 :=
  View.canon [⟨bottom, sumBottom x0 x1 x2⟩, ⟨top, sumTop x0 x1 x2⟩]

theorem sums_cover (p q : Vec F S256x2048 .f32) (y : S512x2048.Idx) :
    ∃ pc ∈ ([⟨bottom, p⟩, ⟨top, q⟩] : List (View.Piece (Elt F) S512x2048 .f32)), y ∈ pc.1.set :=
  View.cover_of_tiled [⟨bottom, p⟩, ⟨top, q⟩] S256x2048.size (by rfl) y

/-- Row `16 r + s` of a half of the second result is the `s`-th stretch of 128 columns of the normed half's row `r`. -/
def spread (A B : FVec F S256x2048 .f32) (y : S8192x128.Idx) : F .f32 :=
  (if (y 0).val < 4096 then A else B) (ix2 (⟨(y 0).val % 4096 / 16, by omega⟩ : Fin 256)
    (⟨(y 0).val % 16 * 128 + (y 1).val, by have h : (y 1).val < 128 := (y 1).isLt; omega⟩ : Fin 2048))

/-- The rows sixteen apart from row `o`. -/
abbrev rows (o : ℕ) (h : o + 4080 < 8192) : Rect S8192x128 :=
  ⟨(⟨![o, 0], S256x128.size, ![16, 1], fun a => by
    right; fin_cases a
    · show o + 16 * (256 - 1) < 8192; omega
    · show 0 + 1 * (128 - 1) < 128; omega⟩ : LoadRect S8192x128), spos_16_1⟩

theorem slices (s : Fin 16) : S256x2048.Slices ![0, s.val * 128] S256x128 := by revert s; decide

/-- The sixteen stores of a half, the last one first. -/
def half (o : ℕ) (h : o + 4095 < 8192) (N : FVec F S256x2048 .f32) : List (View.Piece (Elt F) S8192x128 .f32) :=
  ([15, 14, 13, 12, 11, 10, 9, 8, 7, 6, 5, 4, 3, 2, 1, 0] : List (Fin 16)).map fun s =>
    ⟨rows (o + s.val) (by omega), extractStridedSlice S256x128 ![0, s.val * 128] N (slices s)⟩

/-- All of the second result's stores, the last one first. -/
def stores (A B : FVec F S256x2048 .f32) : List (View.Piece (Elt F) S8192x128 .f32) :=
  half 4096 (by omega) B ++ half 0 (by omega) A

theorem mem_half (o : ℕ) (h : o + 4095 < 8192) (N : FVec F S256x2048 .f32) (s : Fin 16) :
    (⟨rows (o + s.val) (by omega), extractStridedSlice S256x128 ![0, s.val * 128] N (slices s)⟩ : View.Piece (Elt F) S8192x128 .f32) ∈ half o h N :=
  List.mem_map.mpr ⟨s, by revert s; decide, rfl⟩

theorem mem_rows (o : ℕ) (h : o + 4080 < 8192) (y : S8192x128.Idx) (r : Fin 256) (e : (y 0).val = o + 16 * r.val) : y ∈ (rows o h).set := by
  refine (LoadRect.mem_set _).mpr fun a => ?_
  fin_cases a
  · exact ⟨r.val, r.isLt, e⟩
  · exact ⟨(y 1).val, (y 1).isLt, by show (y 1).val = 0 + 1 * (y 1).val; omega⟩

theorem stores_cover (A B : FVec F S256x2048 .f32) (y : S8192x128.Idx) : ∃ p ∈ stores A B, y ∈ p.1.set := by
  have hy : (y 0).val < 8192 := (y 0).isLt
  by_cases h : (y 0).val < 4096
  · exact ⟨_, List.mem_append_right _ (mem_half 0 (by omega) A ⟨(y 0).val % 16, by omega⟩),
      mem_rows _ (by show 0 + (y 0).val % 16 + 4080 < 8192; omega) y ⟨(y 0).val / 16, by omega⟩ (by show _ = 0 + (y 0).val % 16 + 16 * ((y 0).val / 16); omega)⟩
  · exact ⟨_, List.mem_append_left _ (mem_half 4096 (by omega) B ⟨(y 0).val % 16, by omega⟩),
      mem_rows _ (by show 4096 + (y 0).val % 16 + 4080 < 8192; omega) y ⟨((y 0).val - 4096) / 16, by omega⟩ (by show _ = 4096 + (y 0).val % 16 + 16 * (((y 0).val - 4096) / 16); omega)⟩

theorem spread_at (A B : FVec F S256x2048 .f32) (y : S8192x128.Idx) (N : FVec F S256x2048 .f32) (r : Fin 256) (e : Fin 2048)
    (hN : (if (y 0).val < 4096 then A else B) = N) (hr : (y 0).val % 4096 / 16 = r.val) (he : (y 0).val % 16 * 128 + (y 1).val = e.val) :
    spread A B y = N (ix2 r e) := by
  unfold spread
  rw [hN]
  congr 1
  funext a
  fin_cases a
  · exact Fin.ext hr
  · exact Fin.ext he

theorem stores_agree (A B : FVec F S256x2048 .f32) : ∀ p ∈ stores A B, ∀ x : p.1.shape.Idx, p.2 x = spread A B (p.1.emb x) := by
  intro p hp
  rcases List.mem_append.mp hp with hp | hp <;> obtain ⟨s, -, rfl⟩ := List.mem_map.mp hp <;> intro x
  · have hx : (x 0).val < 256 := (x 0).isLt
    have hl : (x 1).val < 128 := (x 1).isLt
    have hs := s.isLt
    have e0 : ((rows (4096 + s.val) (by omega)).emb x 0).val = 4096 + s.val + 16 * (x 0).val := rfl
    have e1 : ((rows (4096 + s.val) (by omega)).emb x 1).val = 0 + 1 * (x 1).val := rfl
    refine ((spread_at A B _ B ⟨(x 0).val, hx⟩ ⟨s.val * 128 + (x 1).val, by omega⟩ ?_ ?_ ?_).trans ?_).symm
    · rw [if_neg]; rw [e0]; omega
    · rw [e0]; show _ = (x 0).val; omega
    · rw [e0, e1]; show _ = s.val * 128 + (x 1).val; omega
    · show _ = B _
      congr 1
      funext a
      fin_cases a
      · exact Fin.ext (by show (x 0).val = 0 + (x 0).val; omega)
      · rfl
  · have hx : (x 0).val < 256 := (x 0).isLt
    have hl : (x 1).val < 128 := (x 1).isLt
    have hs := s.isLt
    have e0 : ((rows (0 + s.val) (by omega)).emb x 0).val = 0 + s.val + 16 * (x 0).val := rfl
    have e1 : ((rows (0 + s.val) (by omega)).emb x 1).val = 0 + 1 * (x 1).val := rfl
    refine ((spread_at A B _ A ⟨(x 0).val, hx⟩ ⟨s.val * 128 + (x 1).val, by omega⟩ ?_ ?_ ?_).trans ?_).symm
    · rw [if_pos]; rw [e0]; omega
    · rw [e0]; show _ = (x 0).val; omega
    · rw [e0, e1]; show _ = s.val * 128 + (x 1).val; omega
    · show _ = A _
      congr 1
      funext a
      fin_cases a
      · exact Fin.ext (by show (x 0).val = 0 + (x 0).val; omega)
      · rfl

/-- Whatever the second result's buffer held, its stores leave the spread halves. -/
theorem read_stores {sp : Space} (v : View sig .tc sp S8192x128 .f32) (f : v.ty.Contents (Elt F)) (A B : FVec F S256x2048 .f32) :
    v.read (Elt F) (v.writes (Elt F) f (stores A B)) = spread A B := by
  rw [View.read_writes_eq_canon v f (stores A B) (stores_cover A B)]
  funext y
  exact View.canon_apply_of_pieces (spread A B) (stores A B) (stores_agree A B) y (stores_cover A B y)

/-- The second result's buffer: both halves normed. -/
def norms (x0 : Vec F S512x2048 .bf16) (x1 : Vec F S512x2048 .f32) (x2 : Vec F S2048x2048 .bf16) (x3 : Vec F S1x2048 .f32) : Vec F S8192x128 .f32 :=
  spread (normed (sumTop x0 x1 x2) x3) (normed (sumBottom x0 x1 x2) x3)

end Cert.OutputIdeal.Stores

end
-- ==== Proof.Output.Run.lean ====
/-
  One run of the output projection's body over machine numbers, from what its buffers hold to what it leaves in them.
-/
module

public import proofs.«01_k».proof.Proof.Output.StoresIdeal
public import proofs.«01_k».proof.Proof.Gen.Output.Launch
public import proofs.«01_k».proof.Proof.Gen.Output.Skeleton
public import proofs.«01_k».proof.Proof.Gen.Output.Points

@[expose] public section

set_option maxRecDepth 16384

noncomputable section

namespace Cert.Output.Stores

open Cert.Output Cert.Output.Gen
open Cert.OutputIdeal.Stores (spread read_stores)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first and the last 256 rows of a block of 512. -/
abbrev top : Rect S512x2048 := Rect.unit (s := S512x2048) ![0, 0] S256x2048.size inb_S512x2048_S256x2048_0_0
abbrev bottom : Rect S512x2048 := Rect.unit (s := S512x2048) ![256, 0] S256x2048.size inb_S512x2048_S256x2048_256_0
/-- The weight and the gain, whole. -/
abbrev weight : Rect S2048x2048 := Rect.unit (s := S2048x2048) ![0, 0] S2048x2048.size inb_S2048x2048_S2048x2048_0_0
abbrev gain : Rect S1x2048 := Rect.unit (s := S1x2048) ![0, 0] S1x2048.size inb_S1x2048_S1x2048_0_0

/-- The sum's two halves. -/
def sumTop (x0 : Vec F S512x2048 .bf16) (x1 : Vec F S512x2048 .f32) (x2 : Vec F S2048x2048 .bf16) : FVec F S256x2048 .f32 :=
  k0_pay3 (View.ld x1 top) (View.ld x0 top) (View.ld x2 weight)
def sumBottom (x0 : Vec F S512x2048 .bf16) (x1 : Vec F S512x2048 .f32) (x2 : Vec F S2048x2048 .bf16) : FVec F S256x2048 .f32 :=
  k0_pay3 (View.ld x1 bottom) (View.ld x0 bottom) (View.ld x2 weight)

/-- A half normed: each row over its root mean square, times the gain. -/
def normed (v : FVec F S256x2048 .f32) (x3 : Vec F S1x2048 .f32) : FVec F S256x2048 .f32 :=
  k0_pay38 v (k0_pay37 v) (View.ld x3 gain)

theorem sum_top : k0_pay2 (F := F) = k0_pay3 := rfl

theorem normed_top (u : Vec F S256x2048 .f32) (v : Vec F S256x2048 .bf16) (w : Vec F S2048x2048 .bf16) (g : Vec F S1x2048 .f32) :
    k0_pay4 u v w g = k0_pay38 (k0_pay3 u v w) (k0_pay37 (k0_pay3 u v w)) g := rfl

/-- The first result's buffer: the sum. -/
def sums (x0 : Vec F S512x2048 .bf16) (x1 : Vec F S512x2048 .f32) (x2 : Vec F S2048x2048 .bf16) : Vec F S512x2048 .f32 :=
  View.canon [⟨bottom, sumBottom x0 x1 x2⟩, ⟨top, sumTop x0 x1 x2⟩]

theorem sums_cover (p q : Vec F S256x2048 .f32) (y : S512x2048.Idx) :
    ∃ pc ∈ ([⟨bottom, p⟩, ⟨top, q⟩] : List (View.Piece (Elt F) S512x2048 .f32)), y ∈ pc.1.set :=
  View.cover_of_tiled [⟨bottom, p⟩, ⟨top, q⟩] S256x2048.size (by rfl) y

/-- The second result's buffer: both halves normed. -/
def norms (x0 : Vec F S512x2048 .bf16) (x1 : Vec F S512x2048 .f32) (x2 : Vec F S2048x2048 .bf16) (x3 : Vec F S1x2048 .f32) : Vec F S8192x128 .f32 :=
  spread (normed (sumTop x0 x1 x2) x3) (normed (sumBottom x0 x1 x2) x3)

set_option maxHeartbeats 600000 in
/-- The third result's stores, found by running the body, and the run: held whole, the arguments' buffers end as they
    were and the results' buffers hold the sum, its norm and what those stores write. -/
def run (c : Dev nD) (i : grid0.Coords) (arg1 : Memref sig .tc .vmem S512x2048 .bf16) (harg1 : arg1.IsWhole) (arg2 : Memref sig .tc .vmem S512x2048 .f32) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S2048x128 .bf16) (harg5 : arg5.IsWhole) (arg6 : Memref sig .tc .vmem S1x128 .f32) (harg6 : arg6.IsWhole)
    (arg7 : Memref sig .tc .vmem S512x2048 .f32) (harg7 : arg7.IsWhole) (arg8 : Memref sig .tc .vmem S8192x128 .f32) (harg8 : arg8.IsWhole)
    (arg9 : Memref sig .tc .vmem S512x128 .f32) (harg9 : arg9.IsWhole)
    (x0 : Vec F S512x2048 .bf16) (x1 : Vec F S512x2048 .f32) (x2 : Vec F S2048x2048 .bf16) (x3 : Vec F S1x2048 .f32) (x4 : Vec F S2048x128 .bf16) (x5 : Vec F S1x128 .f32) :
    { L : List (View.Piece (Elt F) S512x128 .f32) // ∀ (E : Set ℕ) (K : PUnit → sProp 𝕄),
      iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ (∃ d, owns (c : Thread nD τ) arg7 fullShare d) ∗ (∃ d, owns (c : Thread nD τ) arg8 fullShare d) ∗ (∃ d, owns (c : Thread nD τ) arg9 fullShare d)
          ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (sums x0 x1 x2) ∗ owns (c : Thread nD τ) arg8 fullShare (norms x0 x1 x2 x3)
            ∗ (∃ f, arg9.view.loc (c : Thread nD τ) ↦[arg9.view.set]{fullShare} arg9.view.writes (Elt F) f L)) -∗ K ⟨⟩))
        ⊢ wp frame (wpE (defs₀ (F := F)) Variants.none c none) E (cc0_out_proj_router i arg1 harg1 arg2 harg2 arg3 harg3 arg4 harg4 arg5 harg5 arg6 harg6 arg7 harg7 arg8 harg8 arg9 harg9) K } := by
  refine ⟨?_, fun E K => ?run⟩
  case run =>
    simp only [cc0_out_proj_router_eq_skeleton]; unfold cc0_out_proj_router_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      refine (View.read_writes_eq_canon _ _ _ (sums_cover _ _)).trans ?_
      delta run.sl.r
      simp only [sum_top, View.readAt_eq_ld, harg1.read_unread, harg2.read_unread, harg3.read_unread]
      rfl
    isplitl [H7]
    · iexists _; isplitr
      swap; · iexact H7
      ipureintro
      delta run.sl.r run.sl.r_1 run.sl.r_2 run.sl.r_3 run.sl.r_12 run.sl.r_11
      simp only [View.readAt_eq_ld, harg1.read_unread, harg2.read_unread, harg3.read_unread, harg4.read_unread]
      simp only [k0_pay5, k0_pay6, k0_pay7, k0_pay8, k0_pay9, k0_pay10, k0_pay11, k0_pay12, k0_pay13, k0_pay14, k0_pay15, k0_pay16, k0_pay17, k0_pay18, k0_pay19, k0_pay20,
        k0_pay39, k0_pay40, k0_pay41, k0_pay42, k0_pay43, k0_pay44, k0_pay45, k0_pay46, k0_pay47, k0_pay48, k0_pay49, k0_pay50, k0_pay51, k0_pay52, k0_pay53, k0_pay54]
      generalize hA : k0_pay4 (F := F) _ _ _ _ = A
      generalize hB : k0_pay38 (F := F) _ _ _ = B
      refine (read_stores _ _ A B).trans ?_
      rw [← hA, ← hB, normed_top]
      rfl
    iexists _; iexact H8

end Cert.Output.Stores

end
-- ==== Proof.Output.RunIdeal.lean ====
/-
  One run of the output projection's body, from what its buffers hold to what it leaves in them.
-/
module

public import proofs.«01_k».proof.Proof.Output.StoresIdeal

@[expose] public section

set_option maxRecDepth 16384

noncomputable section

namespace Cert.OutputIdeal.Stores

open Cert.OutputIdeal Cert.OutputIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 600000 in
/-- The third result's stores, found by running the body, and the run: held whole, the arguments' buffers end as they
    were and the results' buffers hold the sum, its norm and what those stores write. -/
def run (c : Dev nD) (i : grid0.Coords) (arg1 : Memref sig .tc .vmem S512x2048 .bf16) (harg1 : arg1.IsWhole) (arg2 : Memref sig .tc .vmem S512x2048 .f32) (harg2 : arg2.IsWhole)
    (arg3 : Memref sig .tc .vmem S2048x2048 .bf16) (harg3 : arg3.IsWhole) (arg4 : Memref sig .tc .vmem S1x2048 .f32) (harg4 : arg4.IsWhole)
    (arg5 : Memref sig .tc .vmem S2048x128 .bf16) (harg5 : arg5.IsWhole) (arg6 : Memref sig .tc .vmem S1x128 .f32) (harg6 : arg6.IsWhole)
    (arg7 : Memref sig .tc .vmem S512x2048 .f32) (harg7 : arg7.IsWhole) (arg8 : Memref sig .tc .vmem S8192x128 .f32) (harg8 : arg8.IsWhole)
    (arg9 : Memref sig .tc .vmem S512x128 .f32) (harg9 : arg9.IsWhole)
    (x0 : Vec F S512x2048 .bf16) (x1 : Vec F S512x2048 .f32) (x2 : Vec F S2048x2048 .bf16) (x3 : Vec F S1x2048 .f32) (x4 : Vec F S2048x128 .bf16) (x5 : Vec F S1x128 .f32) :
    { L : List (View.Piece (Elt F) S512x128 .f32) // ∀ (E : Set ℕ) (K : PUnit → sProp 𝕄),
      iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ (∃ d, owns (c : Thread nD τ) arg7 fullShare d) ∗ (∃ d, owns (c : Thread nD τ) arg8 fullShare d) ∗ (∃ d, owns (c : Thread nD τ) arg9 fullShare d)
          ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (sums x0 x1 x2) ∗ owns (c : Thread nD τ) arg8 fullShare (norms x0 x1 x2 x3)
            ∗ (∃ f, arg9.view.loc (c : Thread nD τ) ↦[arg9.view.set]{fullShare} arg9.view.writes (Elt F) f L)) -∗ K ⟨⟩))
        ⊢ wp frame (wpE (defs₀ (F := F)) Variants.none c none) E (cc0_out_proj_router i arg1 harg1 arg2 harg2 arg3 harg3 arg4 harg4 arg5 harg5 arg6 harg6 arg7 harg7 arg8 harg8 arg9 harg9) K } := by
  refine ⟨?_, fun E K => ?run⟩
  case run =>
    simp only [cc0_out_proj_router_eq_skeleton]; unfold cc0_out_proj_router_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      refine (View.read_writes_eq_canon _ _ _ (sums_cover _ _)).trans ?_
      delta run.sl.r
      simp only [sum_top, View.readAt_eq_ld, harg1.read_unread, harg2.read_unread, harg3.read_unread]
      rfl
    isplitl [H7]
    · iexists _; isplitr
      swap; · iexact H7
      ipureintro
      delta run.sl.r run.sl.r_1 run.sl.r_2 run.sl.r_3 run.sl.r_12 run.sl.r_11
      simp only [View.readAt_eq_ld, harg1.read_unread, harg2.read_unread, harg3.read_unread, harg4.read_unread]
      simp only [k0_pay5, k0_pay6, k0_pay7, k0_pay8, k0_pay9, k0_pay10, k0_pay11, k0_pay12, k0_pay13, k0_pay14, k0_pay15, k0_pay16, k0_pay17, k0_pay18, k0_pay19, k0_pay20,
        k0_pay39, k0_pay40, k0_pay41, k0_pay42, k0_pay43, k0_pay44, k0_pay45, k0_pay46, k0_pay47, k0_pay48, k0_pay49, k0_pay50, k0_pay51, k0_pay52, k0_pay53, k0_pay54]
      generalize hA : k0_pay4 (F := F) _ _ _ _ = A
      generalize hB : k0_pay38 (F := F) _ _ _ = B
      refine (read_stores _ _ A B).trans ?_
      rw [← hA, ← hB, normed_top]
      rfl
    iexists _; iexact H8

end Cert.OutputIdeal.Stores

end
-- ==== Proof.Output.FrameIdeal.lean ====
/-
  The output projection over its whole grid: what every buffer of the pipeline holds at each point, and the
  run of the program with its arrays named.
-/
module

public import proofs.«01_k».proof.Proof.Output.RunIdeal
public import Idealize.ShloMosaic.Lib.Ring

@[expose] public section

set_option maxRecDepth 16384

noncomputable section

namespace Cert.OutputIdeal.Stores

open Cert.OutputIdeal Cert.OutputIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer holds once the gain has been laid out as a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Laying the gain out touches no other buffer. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The third result's stores at point `t`. -/
abbrev routes (c : Dev nD) (t : Fin cfg0.N) : List (View.Piece (Elt F) S512x128 .f32) :=
  (run (F := F) c (grid0.coords t) (st0_0 t) (hstage0_0 _) (st0_1 t) (hstage0_1 _) (st0_2 t) (hstage0_2 _) (st0_3 t) (hstage0_3 _) (st0_4 t) (hstage0_4 _) (st0_5 t) (hstage0_5 _)
    (st0_6 t) (hstage0_6 _) (st0_7 t) (hstage0_7 _) (st0_8 t) (hstage0_8 _) (iblk m c 0 t) (iblk m c 1 t) (iblk m c 2 t) (iblk m c 3 t) (iblk m c 4 t) (iblk m c 5 t)).1

theorem routes_cover (c : Dev nD) (t : Fin cfg0.N) (y : S512x128.Idx) : ∃ pc ∈ routes m c t, y ∈ pc.1.set :=
  View.cover_of_tiled (routes m c t) S256x128.size (by rfl) y

/-- The arrays as the region finds them; after a point's body the arguments' buffers hold their blocks, and the
    results' what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sums (iblk m c 0 t) (iblk m c 1 t) (iblk m c 2 t)
    | ⟨7, _⟩ => norms (iblk m c 0 t) (iblk m c 1 t) (iblk m c 2 t) (iblk m c 3 t)
    | ⟨8, _⟩ => View.canon (routes m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = sums (iblk m c 0 t) (iblk m c 1 t) (iblk m c 2 t) := by dsimp only [dats]
theorem after7 (c : Dev nD) (t : Fin cfg0.N) : (dats m 0 c).after 7 t = norms (iblk m c 0 t) (iblk m c 1 t) (iblk m c 2 t) (iblk m c 3 t) := by dsimp only [dats]
theorem after8 (c : Dev nD) (t : Fin cfg0.N) : (dats m 0 c).after 8 t = View.canon (routes m c t) := by dsimp only [dats]

/-- An argument's buffer holds its block when the body starts, whether the point fetched it or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]) t d).trans (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]) t d).trans (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]) t d).trans (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]) t d).trans (by unfold Dat.fetched Dat.blockOf iblk; rw [A_eq]; try rfl)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run c (grid0.coords t) _ _ _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, ⟨%e, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  exact View.read_writes_eq_canon _ _ _ (routes_cover m c t)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program runs: every array ends as the points leave it, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument's array ends as it was launched, whether a window stages it … -/
theorem kept_staged (r : PUnit × MemSt nD τ sig (Elt F)) (h : Pipeline.FramePost cfgs (dats m) 0 (V m) r) (c : Dev nD) (w : Fin cfg0.W)
    (hw : (cfg0.win w).isOut = false) (hb : Pipeline.arrRef spec0 w ≠ main_v0) :
    r.2.mem ((c : Thread nD τ).loc (Pipeline.arrRef spec0 w)) = m ((c : Thread nD τ).loc (Pipeline.arrRef spec0 w)) :=
  ((h c).1 w).trans (((dats m 0 c).arrAt_in w hw _).trans ((A_eq m c w).trans (V_of_ne m c _ hb)))

/-- The run with the results' arrays and the arguments' named. -/
theorem run_named : θ_run defs (onTc (τ := τ) (main (F := F))) ⟨m, fun _ => 0, ρ⟩ (fun r => (∀ c : Dev nD,
      r.2.mem ((c : Thread nD τ).loc main_v1_0) = (dats m 0 c).arrAt 6 cfg0.N
      ∧ r.2.mem ((c : Thread nD τ).loc main_v1_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(h.1 c).1 6, (h.1 c).1 7, kept_staged m r h.1 c 0 rfl (by decide), kept_staged m r h.1 c 1 rfl (by decide),
      kept_staged m r h.1 c 2 rfl (by decide),
      ((h.1 c).2 main_arg3 (Pipeline.mem_restRefs_of main_arg3 (by decide) (by decide))).trans (V_of_ne m c main_arg3 (by decide)),
      kept_staged m r h.1 c 4 rfl (by decide), kept_staged m r h.1 c 5 rfl (by decide)⟩, h.2⟩) (run_quiescent m ρ)

/-- The arguments end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => (h.1 c).2.2, h.2⟩) (run_named m ρ)

end Cert.OutputIdeal.Stores

end
-- ==== Proof.Output.Value.lean ====
/-
  The output projection: what the kernel stores is the reference's sum and its norm.
-/
module

public import proofs.«01_k».proof.Proof.Output.FrameIdeal
public import proofs.«01_k».proof.Proof.Gen.OutputRefIdeal.Run
public import proofs.«01_k».proof.Proof.Gen.OutputRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutputIdeal.Stores

open Cert.OutputIdeal Cert.OutputIdeal.Gen

/-- An entry of the sum: the residual's entry plus a row of the merged branches times a column of the weight. -/
def total {M : ℕ} (x0 : (⟨2, ![M, 2048]⟩ : Shape).Idx → EReal) (x1 : (⟨2, ![M, 2048]⟩ : Shape).Idx → EReal) (x2 : (⟨2, ![2048, 2048]⟩ : Shape).Idx → EReal)
    (r : Fin M) (e : Fin 2048) : EReal :=
  x1 (ix2 r e) + ∑ k : Fin 2048, x0 (ix2 r k) * x2 (ix2 k e)

/-- An entry of a normed row, times its gain. -/
def scaled (v : Fin 2048 → EReal) (g : EReal) (e : Fin 2048) : EReal :=
  v e * Ideal.rsqrt (Ideal.div (∑ k, v k * v k) (Ideal.ofBits FTy.f32 1157627904#32) + Ideal.ofBits FTy.f32 897988541#32) * g

theorem sumTop_at (x0 : FVec Ideal S512x2048 .bf16) (x1 : FVec Ideal S512x2048 .f32) (x2 : FVec Ideal S2048x2048 .bf16) (r : Fin 256) (e : Fin 2048) :
    sumTop (F := Ideal) x0 x1 x2 (ix2 r e) = total x0 x1 x2 (⟨r.val, by omega⟩ : Fin 512) e := by
  unfold sumTop
  pointwise [k0_pay3, total]

theorem sumBottom_at (x0 : FVec Ideal S512x2048 .bf16) (x1 : FVec Ideal S512x2048 .f32) (x2 : FVec Ideal S2048x2048 .bf16) (r : Fin 256) (e : Fin 2048) :
    sumBottom (F := Ideal) x0 x1 x2 (ix2 r e) = total x0 x1 x2 (⟨256 + r.val, by omega⟩ : Fin 512) e := by
  unfold sumBottom
  pointwise [k0_pay3, total]

theorem normed_at (v : FVec Ideal S256x2048 .f32) (x3 : FVec Ideal S1x2048 .f32) (r : Fin 256) (e : Fin 2048) :
    normed (F := Ideal) v x3 (ix2 r e) = scaled (fun k => v (ix2 r k)) (x3 (ix2 0 e)) e := by
  unfold normed
  pointwise [k0_pay37, k0_pay38, scaled]

/-- The first result at an entry of its block. -/
theorem sums_at (x0 : FVec Ideal S512x2048 .bf16) (x1 : FVec Ideal S512x2048 .f32) (x2 : FVec Ideal S2048x2048 .bf16) (r : Fin 512) (e : Fin 2048) :
    sums (F := Ideal) x0 x1 x2 (ix2 r e) = total x0 x1 x2 r e := by
  let G : FVec Ideal S512x2048 .f32 := fun y => total x0 x1 x2 (y 0 : Fin 512) (y 1 : Fin 2048)
  refine View.canon_apply_of_pieces (Val := Elt Ideal) (S := S512x2048) (e := .f32) G _ ?_ (ix2 r e) (sums_cover _ _ _)
  intro p hp
  rcases List.mem_cons.mp hp with rfl | hp
  · intro x
    obtain ⟨a, b, rfl⟩ : ∃ (a : Fin 256) (b : Fin 2048), x = ix2 a b := ⟨x 0, x 1, eq_ix2 x⟩
    refine (sumBottom_at x0 x1 x2 a b).trans ?_
    congr 1
    · exact Fin.ext (by show 256 + a.val = 256 + 1 * a.val; omega)
    · exact Fin.ext (by show b.val = 0 + 1 * b.val; omega)
  · obtain rfl := List.mem_singleton.mp hp
    intro x
    obtain ⟨a, b, rfl⟩ : ∃ (a : Fin 256) (b : Fin 2048), x = ix2 a b := ⟨x 0, x 1, eq_ix2 x⟩
    refine (sumTop_at x0 x1 x2 a b).trans ?_
    congr 1
    · exact Fin.ext (by show a.val = 0 + 1 * a.val; omega)
    · exact Fin.ext (by show b.val = 0 + 1 * b.val; omega)

/-- The second result at an entry of its block. -/
theorem norms_at (x0 : FVec Ideal S512x2048 .bf16) (x1 : FVec Ideal S512x2048 .f32) (x2 : FVec Ideal S2048x2048 .bf16) (x3 : FVec Ideal S1x2048 .f32) (r : Fin 8192) (l : Fin 128) :
    norms (F := Ideal) x0 x1 x2 x3 (ix2 r l)
      = scaled (total x0 x1 x2 (⟨r.val / 16, by omega⟩ : Fin 512)) (x3 (ix2 0 (⟨r.val % 16 * 128 + l.val, by omega⟩ : Fin 2048))) ⟨r.val % 16 * 128 + l.val, by omega⟩ := by
  have hA : ∀ (a : Fin 256) (e : Fin 2048), normed (F := Ideal) (sumTop x0 x1 x2) x3 (ix2 a e)
      = scaled (total x0 x1 x2 (⟨a.val, by omega⟩ : Fin 512)) (x3 (ix2 0 e)) e := fun a e => by
    rw [normed_at, show (fun k => sumTop (F := Ideal) x0 x1 x2 (ix2 a k)) = total x0 x1 x2 (⟨a.val, by omega⟩ : Fin 512) from funext (sumTop_at x0 x1 x2 a)]
  have hB : ∀ (a : Fin 256) (e : Fin 2048), normed (F := Ideal) (sumBottom x0 x1 x2) x3 (ix2 a e)
      = scaled (total x0 x1 x2 (⟨256 + a.val, by omega⟩ : Fin 512)) (x3 (ix2 0 e)) e := fun a e => by
    rw [normed_at, show (fun k => sumBottom (F := Ideal) x0 x1 x2 (ix2 a k)) = total x0 x1 x2 (⟨256 + a.val, by omega⟩ : Fin 512) from funext (sumBottom_at x0 x1 x2 a)]
  unfold norms
  generalize normed (F := Ideal) (sumTop x0 x1 x2) x3 = A at hA ⊢
  generalize normed (F := Ideal) (sumBottom x0 x1 x2) x3 = B at hB ⊢
  have hr := r.isLt
  by_cases h : r.val < 4096
  · have h4 : r.val % 4096 / 16 = r.val / 16 := by omega
    exact (spread_at A B (ix2 r l) A (⟨r.val / 16, by omega⟩ : Fin 256) (⟨r.val % 16 * 128 + l.val, by omega⟩ : Fin 2048) (if_pos h) h4 rfl).trans (hA _ _)
  · have h4 : r.val % 4096 / 16 = r.val / 16 - 256 := by omega
    have e : (⟨256 + (r.val / 16 - 256), by omega⟩ : Fin 512) = ⟨r.val / 16, by omega⟩ := Fin.ext (by dsimp only; omega)
    rw [← e]
    exact (spread_at A B (ix2 r l) B (⟨r.val / 16 - 256, by omega⟩ : Fin 256) (⟨r.val % 16 * 128 + l.val, by omega⟩ : Fin 2048) (if_neg h) h4 rfl).trans (hB _ _)

/-- The reference's two results at an entry. -/
theorem v3_at (x0 : FVec Ideal S32768x2048 .bf16) (x1 : FVec Ideal S32768x2048 .f32) (x2 : FVec Ideal S2048x2048 .bf16) (r : Fin 32768) (e : Fin 2048) :
    Cert.OutputRefIdeal.Read.val_main_v3 (F := Ideal) x0 x1 x2 (ix2 r e) = total x0 x1 x2 r e := by
  pointwise [Cert.OutputRefIdeal.Read.val_main_v3, Cert.OutputRefIdeal.Read.val_main_v2, Cert.OutputRefIdeal.Read.val_main_v1, Cert.OutputRefIdeal.Read.val_main_v0, total]

open Cert.OutputRefIdeal.Read in
theorem v16_at (x0 : FVec Ideal S32768x2048 .bf16) (x1 : FVec Ideal S32768x2048 .f32) (x2 : FVec Ideal S2048x2048 .bf16) (x3 : FVec Ideal S2048 .f32) (r : Fin 32768) (e : Fin 2048) :
    val_main_v16 (F := Ideal) x0 x1 x2 x3 (ix2 r e) = scaled (total x0 x1 x2 r) (x3 (ix1 e)) e := by
  have h : total x0 x1 x2 r = fun k => val_main_v3 (F := Ideal) x0 x1 x2 (ix2 r k) := funext fun k => (v3_at x0 x1 x2 r k).symm
  rw [h]
  unfold val_main_v16 val_main_v13 val_main_v15 val_main_v14 val_main_v12 val_main_v11 val_main_v10 val_main_v9 val_main_cst_1 val_main_v8 val_main_v7 val_main_v6 val_main_v5 val_main_v4 val_main_cst val_main_cst_0
  generalize val_main_v3 (F := Ideal) x0 x1 x2 = v
  pointwise [scaled]

variable (m : (ℓ : Loc nD τ sig) → Buf (Elt Ideal) ℓ)

/-- The windows' block indices at grid point `t`: the rows and the results move with `t`. -/
theorem index_maps : ∀ t : Fin cfg0.N, win0_0.index t = ![t.val, 0] ∧ win0_1.index t = ![t.val, 0] ∧ win0_2.index t = ![0, 0] ∧ win0_3.index t = ![0, 0]
    ∧ win0_6.index t = ![t.val, 0] ∧ win0_7.index t = ![t.val, 0] :=
  (by decide +kernel : ∀ t : Fin grid0.N, _)

/-- The row of the arrays at row `r` of grid point `t`. -/
abbrev row (t : Fin cfg0.N) (r : Fin 512) : Fin 32768 := ⟨512 * t.val + r.val, by have h : t.val < 64 := t.isLt; omega⟩

theorem read0 (c : Dev nD) (t : Fin cfg0.N) (r : Fin 512) (k : Fin 2048) :
    (iblk m c 0 t : FVec Ideal S512x2048 .bf16) (ix2 r k) = (m ((c : Thread nD τ).loc main_arg0) : FVec Ideal S32768x2048 .bf16) (ix2 (row t r) k) := by
  blk_point [iblk, V, index_maps t]

theorem read1 (c : Dev nD) (t : Fin cfg0.N) (r : Fin 512) (k : Fin 2048) :
    (iblk m c 1 t : FVec Ideal S512x2048 .f32) (ix2 r k) = (m ((c : Thread nD τ).loc main_arg1) : FVec Ideal S32768x2048 .f32) (ix2 (row t r) k) := by
  blk_point [iblk, V, index_maps t]

theorem read2 (c : Dev nD) (t : Fin cfg0.N) (k e : Fin 2048) :
    (iblk m c 2 t : FVec Ideal S2048x2048 .bf16) (ix2 k e) = (m ((c : Thread nD τ).loc main_arg2) : FVec Ideal S2048x2048 .bf16) (ix2 k e) := by
  blk_point [iblk, V, index_maps t]

theorem gain_at (c : Dev nD) (e : Fin 2048) :
    (V m c main_v0 : FVec Ideal S1x2048 .f32) (ix2 0 e) = (m ((c : Thread nD τ).loc main_arg3) : FVec Ideal S2048 .f32) (ix1 e) := by
  have h : (V m c main_v0 : FVec Ideal S1x2048 .f32) = shapeCast S1x2048 (m ((c : Thread nD τ).loc main_arg3) : FVec Ideal S2048 .f32) shapeCasts_S2048_S1x2048 := rfl
  rw [h]
  pointwise []

theorem read3 (c : Dev nD) (t : Fin cfg0.N) (e : Fin 2048) :
    (iblk m c 3 t : FVec Ideal S1x2048 .f32) (ix2 0 e) = (m ((c : Thread nD τ).loc main_arg3) : FVec Ideal S2048 .f32) (ix1 e) := by
  refine Eq.trans ?_ (gain_at m c e)
  generalize hV : (V m c main_v0 : FVec Ideal S1x2048 .f32) = X
  blk_point [iblk, hV, index_maps t]

theorem block_total (c : Dev nD) (t : Fin cfg0.N) (r : Fin 512) :
    total (iblk m c 0 t : FVec Ideal S512x2048 .bf16) (iblk m c 1 t : FVec Ideal S512x2048 .f32) (iblk m c 2 t : FVec Ideal S2048x2048 .bf16) r
      = total (m ((c : Thread nD τ).loc main_arg0) : FVec Ideal S32768x2048 .bf16) (m ((c : Thread nD τ).loc main_arg1) : FVec Ideal S32768x2048 .f32)
        (m ((c : Thread nD τ).loc main_arg2) : FVec Ideal S2048x2048 .bf16) (row t r) := by
  funext e
  unfold total
  simp only [read0 m c t, read1 m c t, read2 m c t]

/-- The first result's array after the run is the reference's sum over the argument arrays. -/
theorem final_sum (c : Dev nD) : (dats m 0 c).arrAt 6 (cfgs 0).N
    = Cert.OutputRefIdeal.Read.val_main_v3 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after6]
  obtain ⟨r, e, rfl⟩ : ∃ (r : Fin 512) (e : Fin 2048), y = ix2 r e := ⟨y 0, y 1, eq_ix2 y⟩
  refine (sums_at _ _ _ r e).trans ?_
  rw [block_total m c t]
  refine (v3_at _ _ _ (row t r) e).symm.trans ?_
  generalize Cert.OutputRefIdeal.Read.val_main_v3 (F := Ideal) _ _ _ = X
  blk_point [index_maps t]

/-- The second result's array after the run is the reference's normed sum over the argument arrays. -/
theorem final_norm (c : Dev nD) : (dats m 0 c).arrAt 7 (cfgs 0).N
    = Cert.OutputRefIdeal.Read.val_main_v17 (F := Ideal) (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t _ y => ?_
  blk_simp
  rw [after7]
  obtain ⟨r, l, rfl⟩ : ∃ (r : Fin 8192) (l : Fin 128), y = ix2 r l := ⟨y 0, y 1, eq_ix2 y⟩
  refine (norms_at _ _ _ _ r l).trans ?_
  rw [block_total m c t, read3 m c t]
  refine (v16_at _ _ _ _ _ _).symm.trans ?_
  unfold Cert.OutputRefIdeal.Read.val_main_v17
  generalize Cert.OutputRefIdeal.Read.val_main_v16 (F := Ideal) _ _ _ _ = X
  have ht : t.val < 64 := t.isLt
  pointwise []
  blk_point [index_maps t]

end Cert.OutputIdeal.Stores

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Plain
public import proofs.«01_k».proof.Proof.Gen.Plain.Skeleton
public import proofs.«01_k».proof.Proof.Gen.Plain.Launch
public import proofs.«01_k».proof.Proof.Gen.Plain.Points
public import proofs.«01_k».proof.Proof.Gen.Plain.Frame
public import proofs.«01_k».proof.Proof.Gen.PlainIdeal
public import proofs.«01_k».proof.Proof.Gen.PlainIdeal.Skeleton
public import proofs.«01_k».proof.Proof.Gen.PlainIdeal.Launch
public import proofs.«01_k».proof.Proof.Gen.PlainIdeal.Points
public import proofs.«01_k».proof.Proof.Gen.PlainIdeal.Frame
public import proofs.«01_k».proof.Proof.Gen.PlainRefIdeal
public import proofs.«01_k».proof.Proof.Gen.Rotary
public import proofs.«01_k».proof.Proof.Gen.Rotary.Skeleton
public import proofs.«01_k».proof.Proof.Gen.Rotary.Launch
public import proofs.«01_k».proof.Proof.Gen.Rotary.Points
public import proofs.«01_k».proof.Proof.Gen.Rotary.Frame
public import proofs.«01_k».proof.Proof.Gen.RotaryIdeal
public import proofs.«01_k».proof.Proof.Gen.RotaryIdeal.Skeleton
public import proofs.«01_k».proof.Proof.Gen.RotaryIdeal.Launch
public import proofs.«01_k».proof.Proof.Gen.RotaryIdeal.Points
public import proofs.«01_k».proof.Proof.Gen.RotaryIdeal.Frame
public import proofs.«01_k».proof.Proof.Gen.RotaryRefIdeal
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputRefIdeal
public import proofs.«01_k».proof.Proof.Gen.OutputRefIdeal.Run
public import proofs.«01_k».proof.Proof.Gen.OutputRefIdeal.Read
public import proofs.«01_k».proof.Proof.Gen.Pre_finite
public import Idealize.ShloMosaic.Adequacy
public import Idealize.ShloMosaic.Init
public import proofs.«01_k».proof.Proof.Gen.KernelIdeal.Value
public import proofs.«01_k».proof.Proof.Gen.MergeIdeal.Value
public import proofs.«01_k».proof.Proof.Gen.PlainIdeal.Value
public import proofs.«01_k».proof.Proof.Gen.RotaryIdeal.Value
public import proofs.«01_k».proof.Proof.Gen.ReferenceIdeal.Run
public import proofs.«01_k».proof.Proof.Gen.MergeRefIdeal.Run
public import proofs.«01_k».proof.Proof.Gen.PlainRefIdeal.Run
public import proofs.«01_k».proof.Proof.Gen.RotaryRefIdeal.Run
public import proofs.«01_k».proof.Proof.Gen.ReferenceIdeal.Read
public import proofs.«01_k».proof.Proof.Gen.MergeRefIdeal.Read
public import proofs.«01_k».proof.Proof.Gen.PlainRefIdeal.Read
public import proofs.«01_k».proof.Proof.Gen.RotaryRefIdeal.Read
public import proofs.«01_k».proof.Proof.Fox.Value
public import proofs.«01_k».proof.Proof.MergeValue
public import proofs.«01_k».proof.Proof.PlainValue
public import proofs.«01_k».proof.Proof.Rotary.Value
public import proofs.«01_k».proof.Proof.Output.Frame
public import proofs.«01_k».proof.Proof.Output.Value

@[expose] public section

noncomputable section

namespace Cert.Proof

open Idealize.ShloMosaic Idealize.SL.Sem Cert.Kernel

/-- The forgetting attention's kernel over exact numbers returns the reference's array, where the queries, the keys and
    the log-forget sums are finite. -/
theorem fox : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · run_from Cert.ReferenceIdeal.Value.run m' g'
    rw [Cert.ReferenceIdeal.Read.val_main_v46_eq m' c, (hagree c).1, (hagree c).2]
    exact (Cert.KernelIdeal.Fox.final m c (Cert.ReferenceIdeal.Fox.real_of_finite _ _ (hpre c))).symm

/-- The merge's kernel over exact numbers returns the reference's array. -/
theorem merge : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    exact (Cert.MergeIdeal.Merge.final m c).symm

/-- The plain projection's kernel over exact numbers returns the reference's array. -/
theorem plain : Cert.algebraic_PlainIdeal_PlainRefIdeal (hPlainIdeal := Cert.PlainIdeal.Gen.facts) (hPlainRefIdeal := Cert.PlainRefIdeal.Gen.facts) := by
  pair_intro
  · run_from Cert.PlainIdeal.Gen.run_main m g
  · run_from Cert.PlainRefIdeal.Value.run m' g'
    exact (Cert.PlainIdeal.Product.final m c).symm

/-- The rotary projection's kernel over exact numbers returns the reference's three arrays. -/
theorem rotary : Cert.algebraic_RotaryIdeal_RotaryRefIdeal (hRotaryIdeal := Cert.RotaryIdeal.Gen.facts) (hRotaryRefIdeal := Cert.RotaryRefIdeal.Gen.facts) := by
  intro m g m' g' hpre hagree
  refine ⟨fun c => (Cert.RotaryIdeal.Gen.dats m 0 c).arrAt 9 Cert.RotaryIdeal.cfg0.N, fun c => (Cert.RotaryIdeal.Gen.dats m 0 c).arrAt 10 Cert.RotaryIdeal.cfg0.N,
    fun c => (Cert.RotaryIdeal.Gen.dats m 0 c).arrAt 11 Cert.RotaryIdeal.cfg0.N, ?_, ?_⟩
  · exact Cert.RotaryIdeal.Value.run_blocks m g
  · refine (θ_run Cert.RotaryRefIdeal.defs _ _).mono (fun r h c => ⟨(h c).1.trans ?_, (h c).2.1.trans ?_, (h c).2.2.1.trans ?_, (h c).2.2.2⟩)
      (Cert.RotaryRefIdeal.Value.run (F := Ideal) m' g')
    · rw [Cert.RotaryRefIdeal.Read.val_main_v84_eq m' c, (hagree c).1, (hagree c).2.1]
      exact (Cert.RotaryIdeal.Rope.final_wide m c).symm
    · rw [Cert.RotaryRefIdeal.Read.val_main_v85_eq m' c, (hagree c).1, (hagree c).2.2.1]
      exact (Cert.RotaryIdeal.Rope.final_narrow m c).symm
    · rw [(hagree c).1, (hagree c).2.2.2]
      exact (Cert.RotaryIdeal.Rope.final_small m c).symm

/-- The output projection's kernel over exact numbers returns the reference's two arrays. -/
theorem output : Cert.algebraic_OutputIdeal_OutputRefIdeal (hOutputIdeal := Cert.OutputIdeal.Gen.facts) (hOutputRefIdeal := Cert.OutputRefIdeal.Gen.facts) := by
  intro m g m' g' hpre hagree
  refine ⟨fun c => (Cert.OutputIdeal.Stores.dats m 0 c).arrAt 6 Cert.OutputIdeal.cfg0.N, fun c => (Cert.OutputIdeal.Stores.dats m 0 c).arrAt 7 Cert.OutputIdeal.cfg0.N,
    ?_, ?_⟩
  · exact (θ_run Cert.OutputIdeal.defs _ _).mono (fun r h => h.1) (Cert.OutputIdeal.Stores.run_named (F := Ideal) m g)
  · refine (θ_run Cert.OutputRefIdeal.defs _ _).mono (fun r h c => ⟨(h c).1.trans ?_, (h c).2.1.trans ?_, (h c).2.2⟩) (Cert.OutputRefIdeal.Value.run (F := Ideal) m' g')
    · rw [(hagree c).1, (hagree c).2.1, (hagree c).2.2.1, Cert.OutputRefIdeal.Read.val_main_v3_eq]
      exact (Cert.OutputIdeal.Stores.final_sum m c).symm
    · rw [(hagree c).1, (hagree c).2.1, (hagree c).2.2.1, (hagree c).2.2.2.1, Cert.OutputRefIdeal.Read.val_main_v17_eq]
      exact (Cert.OutputIdeal.Stores.final_norm m c).symm

/-- The forgetting attention's reference runs, its arguments end unchanged, and it holds no semaphore. -/
theorem fox_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run (F := Ideal) m g)

/-- The merge's reference runs, its arguments end unchanged, and it holds no semaphore. -/
theorem merge_reference : Cert.quiescent_MergeRefIdeal (hMergeRefIdeal := Cert.MergeRefIdeal.Gen.facts) := fun m g _ =>
  (θ_run Cert.MergeRefIdeal.defs _ _).mono (fun r h => ⟨fun c => (h c).2, sem_eq_zero_of_no_sems (by decide) r.2⟩) (Cert.MergeRefIdeal.Value.run (F := Ideal) m g)

/-- The plain projection's reference runs, its arguments end unchanged, and it holds no semaphore. -/
theorem plain_reference : Cert.quiescent_PlainRefIdeal (hPlainRefIdeal := Cert.PlainRefIdeal.Gen.facts) := fun m g _ =>
  (θ_run Cert.PlainRefIdeal.defs _ _).mono (fun r h => ⟨fun c => (h c).2, sem_eq_zero_of_no_sems (by decide) r.2⟩) (Cert.PlainRefIdeal.Value.run (F := Ideal) m g)

/-- The rotary projection's reference runs, its arguments end unchanged, and it holds no semaphore. -/
theorem rotary_reference : Cert.quiescent_RotaryRefIdeal (hRotaryRefIdeal := Cert.RotaryRefIdeal.Gen.facts) := fun m g _ =>
  (θ_run Cert.RotaryRefIdeal.defs _ _).mono (fun r h => ⟨fun c => (h c).2.2.2, sem_eq_zero_of_no_sems (by decide) r.2⟩) (Cert.RotaryRefIdeal.Value.run (F := Ideal) m g)

/-- The output projection's reference runs, its arguments end unchanged, and it holds no semaphore. -/
theorem output_reference : Cert.quiescent_OutputRefIdeal (hOutputRefIdeal := Cert.OutputRefIdeal.Gen.facts) := fun m g _ =>
  (θ_run Cert.OutputRefIdeal.defs _ _).mono (fun r h => ⟨fun c => (h c).2.2, sem_eq_zero_of_no_sems (by decide) r.2⟩) (Cert.OutputRefIdeal.Value.run (F := Ideal) m g)

/-- The named constants of the forgetting attention are the ones the original holds, within the rule's reading. -/
theorem names : Cert.preserves_Kernel_KernelIdeal := by
  unfold Cert.preserves_Kernel_KernelIdeal
  exact ⟨IdealRules.named_const.statement Cert.KernelIdeal.κ "scale_log2e" .f32 0x3E0293EE#32 _ rfl,
    IdealRules.named_const.statement Cert.KernelIdeal.κ "log2e" .f32 0x3FB8AA3B#32 _ rfl⟩

theorem claim : Cert.Claim := ⟨Cert.Kernel.Gen.facts, Cert.KernelIdeal.Gen.facts, Cert.ReferenceIdeal.Gen.facts, Cert.Merge.Gen.facts, Cert.MergeIdeal.Gen.facts, Cert.MergeRefIdeal.Gen.facts, Cert.Plain.Gen.facts, Cert.PlainIdeal.Gen.facts, Cert.PlainRefIdeal.Gen.facts,
  Cert.Rotary.Gen.facts, Cert.RotaryIdeal.Gen.facts, Cert.RotaryRefIdeal.Gen.facts,
  Cert.Output.Gen.facts, Cert.OutputIdeal.Gen.facts, Cert.OutputRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fox_reference, fun m g _ => fox_reference m g trivial,
  fun m ρ _ => Cert.Merge.Gen.frame m ρ, fun m ρ _ => Cert.MergeIdeal.Gen.frame m ρ, merge_reference,
  fun m ρ _ => Cert.Plain.Gen.frame m ρ, fun m ρ _ => Cert.PlainIdeal.Gen.frame m ρ, plain_reference,
  fun m ρ _ => Cert.Rotary.Gen.frame m ρ, fun m ρ _ => Cert.RotaryIdeal.Gen.frame m ρ, rotary_reference,
  fun m ρ _ => Cert.Output.Stores.frame m ρ, fun m ρ _ => Cert.OutputIdeal.Stores.frame m ρ, output_reference,
  names, fox, trivial, merge, trivial, plain, trivial, rotary, trivial, output⟩

end Cert.Proof

end
